-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v29) = v0 c
          ∧ r.2.mem ((c.tc : Thread Cert.ProjReferenceIdeal.nD Cert.ProjReferenceIdeal.τ).loc Cert.ProjReferenceIdeal.main_v27) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v19_0)) (v1 : (c : Dev Cert.PrepIdeal.nD) → Buf (Elt Ideal) ((c.tc : Thread Cert.PrepIdeal.nD Cert.PrepIdeal.τ).loc Cert.PrepIdeal.main_v19_1)) (v2 : (c : Dev Cert.PrepIdeal.nD) → Buf (Elt Ideal) ((c.tc : Thread Cert.PrepIdeal.nD Cert.PrepIdeal.τ).loc Cert.PrepIdeal.main_v19_2)) (v3 : (c : Dev Cert.PrepIdeal.nD) → Buf (Elt Ideal) ((c.tc : Thread Cert.PrepIdeal.nD Cert.PrepIdeal.τ).loc Cert.PrepIdeal.main_v19_3)) (v4 : (c : Dev Cert.PrepIdeal.nD) → Buf (Elt Ideal) ((c.tc : Thread Cert.PrepIdeal.nD Cert.PrepIdeal.τ).loc Cert.PrepIdeal.main_v19_4)) (v5 : (c : Dev Cert.PrepIdeal.nD) → Buf (Elt Ideal) ((c.tc : Thread Cert.PrepIdeal.nD Cert.PrepIdeal.τ).loc Cert.PrepIdeal.main_v19_5)) (v6 : (c : Dev Cert.PrepIdeal.nD) → Buf (Elt Ideal) ((c.tc : Thread Cert.PrepIdeal.nD Cert.PrepIdeal.τ).loc Cert.PrepIdeal.main_v19_6)) (v7 : (c : Dev Cert.PrepIdeal.nD) → Buf (Elt Ideal) ((c.tc : Thread Cert.PrepIdeal.nD Cert.PrepIdeal.τ).loc Cert.PrepIdeal.main_v19_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v19_0) = v0 c
          ∧ r.2.mem ((c.tc : Thread Cert.PrepIdeal.nD Cert.PrepIdeal.τ).loc Cert.PrepIdeal.main_v19_1) = v1 c
          ∧ r.2.mem ((c.tc : Thread Cert.PrepIdeal.nD Cert.PrepIdeal.τ).loc Cert.PrepIdeal.main_v19_2) = v2 c
          ∧ r.2.mem ((c.tc : Thread Cert.PrepIdeal.nD Cert.PrepIdeal.τ).loc Cert.PrepIdeal.main_v19_3) = v3 c
          ∧ r.2.mem ((c.tc : Thread Cert.PrepIdeal.nD Cert.PrepIdeal.τ).loc Cert.PrepIdeal.main_v19_4) = v4 c
          ∧ r.2.mem ((c.tc : Thread Cert.PrepIdeal.nD Cert.PrepIdeal.τ).loc Cert.PrepIdeal.main_v19_5) = v5 c
          ∧ r.2.mem ((c.tc : Thread Cert.PrepIdeal.nD Cert.PrepIdeal.τ).loc Cert.PrepIdeal.main_v19_6) = v6 c
          ∧ r.2.mem ((c.tc : Thread Cert.PrepIdeal.nD Cert.PrepIdeal.τ).loc Cert.PrepIdeal.main_v19_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v40) = v0 c
          ∧ r.2.mem ((c.tc : Thread Cert.PrepReferenceIdeal.nD Cert.PrepReferenceIdeal.τ).loc Cert.PrepReferenceIdeal.main_v45) = v1 c
          ∧ r.2.mem ((c.tc : Thread Cert.PrepReferenceIdeal.nD Cert.PrepReferenceIdeal.τ).loc Cert.PrepReferenceIdeal.main_v79) = v2 c
          ∧ r.2.mem ((c.tc : Thread Cert.PrepReferenceIdeal.nD Cert.PrepReferenceIdeal.τ).loc Cert.PrepReferenceIdeal.main_v112) = v3 c
          ∧ r.2.mem ((c.tc : Thread Cert.PrepReferenceIdeal.nD Cert.PrepReferenceIdeal.τ).loc Cert.PrepReferenceIdeal.main_v89) = v4 c
          ∧ r.2.mem ((c.tc : Thread Cert.PrepReferenceIdeal.nD Cert.PrepReferenceIdeal.τ).loc Cert.PrepReferenceIdeal.main_v86) = v5 c
          ∧ r.2.mem ((c.tc : Thread Cert.PrepReferenceIdeal.nD Cert.PrepReferenceIdeal.τ).loc Cert.PrepReferenceIdeal.main_v111) = v6 c
          ∧ r.2.mem ((c.tc : Thread Cert.PrepReferenceIdeal.nD Cert.PrepReferenceIdeal.τ).loc Cert.PrepReferenceIdeal.main_v114) = v7 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def Claim : Prop :=
  ∃ (hKernel : Cert.Kernel.Facts) (hKernelIdeal : Cert.KernelIdeal.Facts) (hReference : Cert.Reference.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPrep : Cert.Prep.Facts) (hPrepIdeal : Cert.PrepIdeal.Facts) (hPrepReferenceIdeal : Cert.PrepReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference) (hPre_in_range := hPre_in_range)
    ∧ quiescent_ReferenceIdeal (hReferenceIdeal := hReferenceIdeal) (hPre_in_range := hPre_in_range)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Prep_PrepIdeal
    ∧ algebraic_PrepIdeal_PrepReferenceIdeal (hPrepIdeal := hPrepIdeal) (hPrepReferenceIdeal := hPrepReferenceIdeal)
-- ==== Pre_in_range.lean ====
abbrev S270336x128 : Shape := ⟨2, ![270336, 128]⟩
abbrev S4x3x16384 : Shape := ⟨3, ![4, 3, 16384]⟩
abbrev S_ : Shape := ⟨0, ![]⟩

class Facts : Prop where
  bcast_S_S4x3x16384 : S_.BroadcastsInDim S4x3x16384 (![] : Fin 0 → Fin S4x3x16384.rank)

variable [Facts]

def fn {F : FTy → Type} [FloatOps F] (main_arg0 : FVec F S270336x128 .f32) (main_arg1 : IVec S4x3x16384 32) : IVec S4x3x16384 1 :=
  let main_c : IVec S_ 32 := constantI S_ 32 0#32
  let main_v0 : IVec S4x3x16384 32 := broadcastInDim S4x3x16384 ![] bcast_S_S4x3x16384 main_c
  let main_v1 : IVec S4x3x16384 1 := cmpi .sge main_arg1 main_v0
  let main_c_0 : IVec S_ 32 := constantI S_ 32 270336#32
  let main_v2 : IVec S4x3x16384 32 := broadcastInDim S4x3x16384 ![] bcast_S_S4x3x16384 main_c_0
  let main_v3 : IVec S4x3x16384 1 := cmpi .slt main_arg1 main_v2
  let main_v4 : IVec S4x3x16384 1 := andi main_v1 main_v3
  main_v4
-- ==== Kernel.lean ====
abbrev S270336x128 : Shape := ⟨2, ![270336, 128]⟩
abbrev S4x3x16384 : Shape := ⟨3, ![4, 3, 16384]⟩
abbrev S196608 : Shape := ⟨1, ![196608]⟩
abbrev S1x196608 : Shape := ⟨2, ![1, 196608]⟩
abbrev S196608x128 : Shape := ⟨2, ![196608, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S4x3x16384x128 : Shape := ⟨4, ![4, 3, 16384, 128]⟩

abbrev nBuf : Table → Nat
  | .hbm => 6
  | .local .scVector .vmem => 2
  | _ => 0

abbrev bufTy : (tb : Table) → Fin (nBuf tb) → BufTy
  | .hbm, ⟨0, _⟩ => ⟨S270336x128, .f32⟩
  | .hbm, ⟨1, _⟩ => ⟨S4x3x16384, .i32⟩
  | .hbm, ⟨2, _⟩ => ⟨S196608, .i32⟩
  | .hbm, ⟨3, _⟩ => ⟨S1x196608, .i32⟩
  | .hbm, ⟨4, _⟩ => ⟨S196608x128, .f32⟩
  | .hbm, ⟨5, _⟩ => ⟨S4x3x16384x128, .f32⟩
  | .local .scVector .vmem, ⟨0, _⟩ => ⟨S2x1x256, .i32⟩
  | .local .scVector .vmem, ⟨1, _⟩ => ⟨S2x256x128, .f32⟩
  | _, _ => ⟨S270336x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c24_i32_27_r0 : BitVec 32 := 24#32
  let v32_r0 : BitVec 32 := Scalar.addi c0_i32_26_r0 c24_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c24_i32_62_r0 : BitVec 32 := 24#32
  let v74_r0 : BitVec 1 := Scalar.cmpi .eq v73_r0 c24_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c23_i32_68_r0 : BitVec 32 := 23#32
  let v83_r0 : BitVec 1 := Scalar.cmpi .sge arg5_r0 c23_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c24_i32_62_r0 : BitVec 32 := 24#32
  let v74_r0 : BitVec 1 := Scalar.cmpi .eq v73_r0 c24_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c23_i32_59_r0 : BitVec 32 := 23#32
  let v70_r0 : BitVec 32 := Scalar.select v69_r0 c23_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c24_i32_62_r0 : BitVec 32 := 24#32
  let v74_r0 : BitVec 1 := Scalar.cmpi .eq v73_r0 c24_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c23_i32_55_r0 : BitVec 32 := 23#32
  let v65_r0 : BitVec 1 := Scalar.cmpi .eq arg5_r0 c23_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c23_i32_59_r0 : BitVec 32 := 23#32
  let v70_r0 : BitVec 32 := Scalar.select v69_r0 c23_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c23_i32_59_r0 : BitVec 32 := 23#32
  let v70_r0 : BitVec 32 := Scalar.select v69_r0 c23_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x196608.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x196608.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S196608x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S196608x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x196608.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x196608.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S196608x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S196608x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c23_i32_33_r0 : BitVec 32 := 23#32
  let v37_r0 : BitVec 32 := Scalar.select v36_r0 c23_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 32 := Scalar.muli v3 c24_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S196608x128.size a)
theorem k0_off19_inb : ∀ (i : grid0.Coords) (v33_4_r0 : BitVec 32) (k0_hw5 : k0_chk5 i v33_4_r0), ∀ a, (k0_off19 i v33_4_r0) a + S256x128.size a ≤ S196608x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S270336x128 : Shape := ⟨2, ![270336, 128]⟩
abbrev S4x3x16384 : Shape := ⟨3, ![4, 3, 16384]⟩
abbrev S_ : Shape := ⟨0, ![]⟩
abbrev S4x3x16384x1 : Shape := ⟨4, ![4, 3, 16384, 1]⟩
abbrev S4x3x16384x128 : Shape := ⟨4, ![4, 3, 16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S270336x128, .f32⟩
  | .hbm, ⟨1, _⟩ => ⟨S4x3x16384, .i32⟩
  | .hbm, ⟨2, _⟩ => ⟨S_, .i32⟩
  | .hbm, ⟨3, _⟩ => ⟨S4x3x16384, .i32⟩
  | .hbm, ⟨4, _⟩ => ⟨S4x3x16384, .i1⟩
  | .hbm, ⟨5, _⟩ => ⟨S_, .i32⟩
  | .hbm, ⟨6, _⟩ => ⟨S4x3x16384, .i32⟩
  | .hbm, ⟨7, _⟩ => ⟨S4x3x16384, .i32⟩
  | .hbm, ⟨8, _⟩ => ⟨S4x3x16384, .i32⟩
  | .hbm, ⟨9, _⟩ => ⟨S4x3x16384x1, .i32⟩
  | .hbm, ⟨10, _⟩ => ⟨S4x3x16384x128, .f32⟩
  | _, _ => ⟨S270336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Merge.lean ====
abbrev S16384x1024 : Shape := ⟨2, ![16384, 1024]⟩
abbrev S16384x11264 : Shape := ⟨2, ![16384, 11264]⟩
abbrev S1x16384x2048 : Shape := ⟨3, ![1, 16384, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x11264, .f32⟩
  | .hbm, ⟨3, _⟩ => ⟨S1x16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x1024, .bf16⟩
  | .hbm, ⟨9, _⟩ => ⟨S16384x1024, .bf16⟩
  | .hbm, ⟨10, _⟩ => ⟨S16384x11264, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S1x2048, .f32⟩
  | .hbm, ⟨15, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x1024 : Shape := ⟨2, ![16384, 1024]⟩
abbrev S16384x11264 : Shape := ⟨2, ![16384, 11264]⟩
abbrev S1x16384x2048 : Shape := ⟨3, ![1, 16384, 2048]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x11264, .f32⟩
  | .hbm, ⟨3, _⟩ => ⟨S1x16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proj.lean ====
abbrev S1x16384x2048 : Shape := ⟨3, ![1, 16384, 2048]⟩
abbrev S2048 : Shape := ⟨1, ![2048]⟩
abbrev S2048x11272 : Shape := ⟨2, ![2048, 11272]⟩
abbrev S2048x1024 : Shape := ⟨2, ![2048, 1024]⟩
abbrev S2048x4 : Shape := ⟨2, ![2048, 4]⟩
abbrev S2048x2048 : Shape := ⟨2, ![2048, 2048]⟩
abbrev S2048x11264 : Shape := ⟨2, ![2048, 11264]⟩
abbrev S_ : Shape := ⟨0, ![]⟩
abbrev S2048x120 : Shape := ⟨2, ![2048, 120]⟩
abbrev S2048x128 : Shape := ⟨2, ![2048, 128]⟩
abbrev S1x2048 : Shape := ⟨2, ![1, 2048]⟩
abbrev S16384x11264 : Shape := ⟨2, ![16384, 11264]⟩
abbrev S16384x128 : Shape := ⟨2, ![16384, 128]⟩
abbrev S1x512x2048 : Shape := ⟨3, ![1, 512, 2048]⟩
abbrev S2048x2816 : Shape := ⟨2, ![2048, 2816]⟩
abbrev S512x2816 : Shape := ⟨2, ![512, 2816]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 11
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x11272, .f32⟩
  | .hbm, ⟨3, _⟩ => ⟨S2048x11272, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x4, .bf16⟩
  | .hbm, ⟨9, _⟩ => ⟨S2048x4, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x2048, .bf16⟩
  | .hbm, ⟨14, _⟩ => ⟨S2048x2048, .bf16⟩
  | .hbm, ⟨15, _⟩ => ⟨S2048x11264, .bf16⟩
  | .hbm, ⟨16, _⟩ => ⟨S_, .bf16⟩
  | .hbm, ⟨17, _⟩ => ⟨S2048x120, .bf16⟩
  | .hbm, ⟨18, _⟩ => ⟨S2048x128, .bf16⟩
  | .hbm, ⟨19, _⟩ => ⟨S1x2048, .f32⟩
  | .hbm, ⟨20, _⟩ => ⟨S16384x11264, .bf16⟩
  | .hbm, ⟨21, _⟩ => ⟨S16384x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x2816, .bf16⟩
  | .local _ .vmem, ⟨4, _⟩ => ⟨S2048x2816, .bf16⟩
  | .local _ .vmem, ⟨5, _⟩ => ⟨S2048x128, .bf16⟩
  | .local _ .vmem, ⟨6, _⟩ => ⟨S512x2816, .bf16⟩
  | .local _ .vmem, ⟨7, _⟩ => ⟨S512x2816, .bf16⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjReferenceIdeal.lean ====
abbrev S1x16384x2048 : Shape := ⟨3, ![1, 16384, 2048]⟩
abbrev S2048 : Shape := ⟨1, ![2048]⟩
abbrev S2048x11272 : Shape := ⟨2, ![2048, 11272]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11272 : Shape := ⟨2, ![16384, 11272]⟩
abbrev S16384x1024 : Shape := ⟨2, ![16384, 1024]⟩
abbrev S16384x4 : Shape := ⟨2, ![16384, 4]⟩
abbrev S16384x8 : Shape := ⟨2, ![16384, 8]⟩
abbrev S16384x128 : Shape := ⟨2, ![16384, 128]⟩
abbrev S16384x11264 : Shape := ⟨2, ![16384, 11264]⟩

abbrev nBuf : Space → Nat
  | .hbm => 38
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x11272, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x11272, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x4, .f32⟩
  | .hbm, ⟨26, _⟩ => ⟨S16384x4, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2048, .f32⟩
  | .hbm, ⟨31, _⟩ => ⟨S16384x2048, .f32⟩
  | .hbm, ⟨32, _⟩ => ⟨S16384x8, .f32⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S16384x11264, .f32⟩
  | .hbm, ⟨37, _⟩ => ⟨S16384x11264, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Prep.lean ====
abbrev S16384x11264 : Shape := ⟨2, ![16384, 11264]⟩
abbrev S16384x128 : Shape := ⟨2, ![16384, 128]⟩
abbrev S16384 : Shape := ⟨1, ![16384]⟩
abbrev S4x2048 : Shape := ⟨2, ![4, 2048]⟩
abbrev S2048 : Shape := ⟨1, ![2048]⟩
abbrev S4 : Shape := ⟨1, ![4]⟩
abbrev S_ : Shape := ⟨0, ![]⟩
abbrev S120 : Shape := ⟨1, ![120]⟩
abbrev S128 : Shape := ⟨1, ![128]⟩
abbrev S1x128 : Shape := ⟨2, ![1, 128]⟩
abbrev S64 : Shape := ⟨1, ![64]⟩
abbrev S16384x1 : Shape := ⟨2, ![16384, 1]⟩
abbrev S1x2048 : Shape := ⟨2, ![1, 2048]⟩
abbrev S16384x1024 : Shape := ⟨2, ![16384, 1024]⟩
abbrev S1024x16384 : Shape := ⟨2, ![1024, 16384]⟩
abbrev S8x16384x128 : Shape := ⟨3, ![8, 16384, 128]⟩
abbrev S64x1x1024 : Shape := ⟨3, ![64, 1, 1024]⟩
abbrev S8x16384 : Shape := ⟨2, ![8, 16384]⟩
abbrev S256x2048 : Shape := ⟨2, ![256, 2048]⟩
abbrev S16x2048 : Shape := ⟨2, ![16, 2048]⟩
abbrev S256x1024 : Shape := ⟨2, ![256, 1024]⟩
abbrev S256x128 : Shape := ⟨2, ![256, 128]⟩
abbrev S256x1 : Shape := ⟨2, ![256, 1]⟩
abbrev S1024x256 : Shape := ⟨2, ![1024, 256]⟩
abbrev S8x256x128 : Shape := ⟨3, ![8, 256, 128]⟩
abbrev S1x1x1024 : Shape := ⟨3, ![1, 1, 1024]⟩
abbrev S8x256 : Shape := ⟨2, ![8, 256]⟩
abbrev S16x512 : Shape := ⟨2, ![16, 512]⟩
abbrev S8x512 : Shape := ⟨2, ![8, 512]⟩
abbrev S256x512 : Shape := ⟨2, ![256, 512]⟩
abbrev S264x512 : Shape := ⟨2, ![264, 512]⟩
abbrev S1x512 : Shape := ⟨2, ![1, 512]⟩
abbrev S512x256 : Shape := ⟨2, ![512, 256]⟩
abbrev S1x256x128 : Shape := ⟨3, ![1, 256, 128]⟩
abbrev S1x1x128 : Shape := ⟨3, ![1, 1, 128]⟩
abbrev S256x256 : Shape := ⟨2, ![256, 256]⟩
abbrev S128x256 : Shape := ⟨2, ![128, 256]⟩

abbrev nBuf : Space → Nat
  | .hbm => 40
  | .vmem => 32
  | .smem => 0
  | _ => 0

abbrev bufTy : (tb : Table) → Fin (tcTables nBuf tb) → BufTy
  | .hbm, ⟨0, _⟩ => ⟨S16384x11264, .f32⟩
  | .hbm, ⟨1, _⟩ => ⟨S16384x128, .f32⟩
  | .hbm, ⟨2, _⟩ => ⟨S16384, .i32⟩
  | .hbm, ⟨3, _⟩ => ⟨S4x2048, .f32⟩
  | .hbm, ⟨4, _⟩ => ⟨S2048, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S120, .f32⟩
  | .hbm, ⟨9, _⟩ => ⟨S128, .f32⟩
  | .hbm, ⟨10, _⟩ => ⟨S1x128, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S1x128, .f32⟩
  | .hbm, ⟨29, _⟩ => ⟨S16384x11264, .bf16⟩
  | .hbm, ⟨30, _⟩ => ⟨S16384x1, .i32⟩
  | .hbm, ⟨31, _⟩ => ⟨S1x2048, .f32⟩
  | .hbm, ⟨32, _⟩ => ⟨S16384x1024, .bf16⟩
  | .hbm, ⟨33, _⟩ => ⟨S1024x16384, .bf16⟩
  | .hbm, ⟨34, _⟩ => ⟨S8x16384x128, .f32⟩
  | .hbm, ⟨35, _⟩ => ⟨S16384x1024, .bf16⟩
  | .hbm, ⟨36, _⟩ => ⟨S1024x16384, .bf16⟩
  | .hbm, ⟨37, _⟩ => ⟨S64x1x1024, .f32⟩
  | .hbm, ⟨38, _⟩ => ⟨S16384x128, .f32⟩
  | .hbm, ⟨39, _⟩ => ⟨S8x16384, .f32⟩
  | .local _ .vmem, ⟨0, _⟩ => ⟨S256x2048, .bf16⟩
  | .local _ .vmem, ⟨1, _⟩ => ⟨S256x2048, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x1, .i32⟩
  | .local _ .vmem, ⟨11, _⟩ => ⟨S256x1, .i32⟩
  | .local _ .vmem, ⟨12, _⟩ => ⟨S1x128, .f32⟩
  | .local _ .vmem, ⟨13, _⟩ => ⟨S4x2048, .f32⟩
  | .local _ .vmem, ⟨14, _⟩ => ⟨S1x2048, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S1024x256, .bf16⟩
  | .local _ .vmem, ⟨19, _⟩ => ⟨S1024x256, .bf16⟩
  | .local _ .vmem, ⟨20, _⟩ => ⟨S8x256x128, .f32⟩
  | .local _ .vmem, ⟨21, _⟩ => ⟨S8x256x128, .f32⟩
  | .local _ .vmem, ⟨22, _⟩ => ⟨S256x1024, .bf16⟩
  | .local _ .vmem, ⟨23, _⟩ => ⟨S256x1024, .bf16⟩
  | .local _ .vmem, ⟨24, _⟩ => ⟨S1024x256, .bf16⟩
  | .local _ .vmem, ⟨25, _⟩ => ⟨S1024x256, .bf16⟩
  | .local _ .vmem, ⟨26, _⟩ => ⟨S1x1x1024, .f32⟩
  | .local _ .vmem, ⟨27, _⟩ => ⟨S1x1x1024, .f32⟩
  | .local _ .vmem, ⟨28, _⟩ => ⟨S256x128, .f32⟩
  | .local _ .vmem, ⟨29, _⟩ => ⟨S256x128, .f32⟩
  | .local _ .vmem, ⟨30, _⟩ => ⟨S8x256, .f32⟩
  | .local _ .vmem, ⟨31, _⟩ => ⟨S8x256, .f32⟩
  | _, _ => ⟨S16384x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev main_v19_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepReferenceIdeal.lean ====
abbrev S16384x11264 : Shape := ⟨2, ![16384, 11264]⟩
abbrev S16384x128 : Shape := ⟨2, ![16384, 128]⟩
abbrev S16384 : Shape := ⟨1, ![16384]⟩
abbrev S4x2048 : Shape := ⟨2, ![4, 2048]⟩
abbrev S2048 : Shape := ⟨1, ![2048]⟩
abbrev S4 : Shape := ⟨1, ![4]⟩
abbrev S16384x2048 : Shape := ⟨2, ![16384, 2048]⟩
abbrev S_ : Shape := ⟨0, ![]⟩
abbrev S16387x2048 : Shape := ⟨2, ![16387, 2048]⟩
abbrev S1x2048 : Shape := ⟨2, ![1, 2048]⟩
abbrev S16384x1024 : Shape := ⟨2, ![16384, 1024]⟩
abbrev S1024x16384 : Shape := ⟨2, ![1024, 16384]⟩
abbrev S64 : Shape := ⟨1, ![64]⟩
abbrev S16384x1 : Shape := ⟨2, ![16384, 1]⟩
abbrev S128 : Shape := ⟨1, ![128]⟩
abbrev S1x128 : Shape := ⟨2, ![1, 128]⟩
abbrev S16384x1x128 : Shape := ⟨3, ![16384, 1, 128]⟩
abbrev S16384x16x128 : Shape := ⟨3, ![16384, 16, 128]⟩
abbrev S16384x16x64 : Shape := ⟨3, ![16384, 16, 64]⟩
abbrev S16384x8x128 : Shape := ⟨3, ![16384, 8, 128]⟩
abbrev S8x16384x128 : Shape := ⟨3, ![8, 16384, 128]⟩
abbrev S64x256x1024 : Shape := ⟨3, ![64, 256, 1024]⟩
abbrev S64x1024 : Shape := ⟨2, ![64, 1024]⟩
abbrev S64x1x1024 : Shape := ⟨3, ![64, 1, 1024]⟩
abbrev S120 : Shape := ⟨1, ![120]⟩
abbrev S128x128 : Shape := ⟨2, ![128, 128]⟩
abbrev S128x128x128 : Shape := ⟨3, ![128, 128, 128]⟩
abbrev S16384x8 : Shape := ⟨2, ![16384, 8]⟩
abbrev S8x16384 : Shape := ⟨2, ![8, 16384]⟩

abbrev nBuf : Space → Nat
  | .hbm => 147
  | .vmem => 0
  | .smem => 0
  | _ => 0

abbrev hbmTy0_0 (i : Nat) : BufTy := match i % 128 with
  | 0 => ⟨S16384x11264, .f32⟩
  | 1 => ⟨S16384x128, .f32⟩
  | 2 => ⟨S16384, .i32⟩
  | 3 => ⟨S4x2048, .f32⟩
  | 4 => ⟨S2048, .f32⟩
  | 5 => ⟨S4, .f32⟩
  | 6 => ⟨S4, .f32⟩
  | 7 => ⟨S16384x2048, .f32⟩
  | 8 => ⟨S_, .i32⟩
  | 9 => ⟨S_, .f32⟩
  | 10 => ⟨S16387x2048, .f32⟩
  | 11 => ⟨S1x2048, .f32⟩
  | 12 => ⟨S2048, .f32⟩
  | 13 => ⟨S16384x2048, .f32⟩
  | 14 => ⟨S1x2048, .f32⟩
  | 15 => ⟨S16384x2048, .f32⟩
  | 16 => ⟨S16384x2048, .f32⟩
  | 17 => ⟨S1x2048, .f32⟩
  | 18 => ⟨S2048, .f32⟩
  | 19 => ⟨S16384x2048, .f32⟩
  | 20 => ⟨S1x2048, .f32⟩
  | 21 => ⟨S16384x2048, .f32⟩
  | 22 => ⟨S16384x2048, .f32⟩
  | 23 => ⟨S16384x2048, .f32⟩
  | 24 => ⟨S1x2048, .f32⟩
  | 25 => ⟨S2048, .f32⟩
  | 26 => ⟨S16384x2048, .f32⟩
  | 27 => ⟨S1x2048, .f32⟩
  | 28 => ⟨S16384x2048, .f32⟩
  | 29 => ⟨S16384x2048, .f32⟩
  | 30 => ⟨S16384x2048, .f32⟩
  | 31 => ⟨S1x2048, .f32⟩
  | 32 => ⟨S2048, .f32⟩
  | 33 => ⟨S16384x2048, .f32⟩
  | 34 => ⟨S1x2048, .f32⟩
  | 35 => ⟨S16384x2048, .f32⟩
  | 36 => ⟨S16384x2048, .f32⟩
  | 37 => ⟨S16384x2048, .f32⟩
  | 38 => ⟨S1x2048, .f32⟩
  | 39 => ⟨S16384x2048, .f32⟩
  | 40 => ⟨S16384x2048, .f32⟩
  | 41 => ⟨S16384x2048, .f32⟩
  | 42 => ⟨S16384x2048, .f32⟩
  | 43 => ⟨S_, .f32⟩
  | 44 => ⟨S16384x2048, .f32⟩
  | 45 => ⟨S16384x2048, .f32⟩
  | 46 => ⟨S_, .f32⟩
  | 47 => ⟨S16384x2048, .f32⟩
  | 48 => ⟨S16384x2048, .f32⟩
  | 49 => ⟨S16384x2048, .f32⟩
  | 50 => ⟨S16384x1024, .f32⟩
  | 51 => ⟨S16384x1024, .bf16⟩
  | 52 => ⟨S16384x1024, .f32⟩
  | 53 => ⟨S_, .f32⟩
  | 54 => ⟨S16384x1024, .f32⟩
  | 55 => ⟨S16384x1024, .f32⟩
  | 56 => ⟨S1024x16384, .f32⟩
  | 57 => ⟨S1024x16384, .bf16⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S16384, .f32⟩
  | 75 => ⟨S16384x1, .f32⟩
  | 76 => ⟨S128, .f32⟩
  | 77 => ⟨S1x128, .f32⟩
  | 78 => ⟨S16384x128, .f32⟩
  | 79 => ⟨S16384x128, .f32⟩
  | 80 => ⟨S16384x128, .f32⟩
  | 81 => ⟨S16384x1x128, .f32⟩
  | 82 => ⟨S16384x2048, .f32⟩
  | 83 => ⟨S16384x16x128, .f32⟩
  | 84 => ⟨S16384x16x64, .f32⟩
  | 85 => ⟨S16384x16x64, .f32⟩
  | 86 => ⟨S16384x16x64, .f32⟩
  | 87 => ⟨S16384x16x128, .f32⟩
  | 88 => ⟨S16384x1x128, .f32⟩
  | 89 => ⟨S16384x16x128, .f32⟩
  | 90 => ⟨S16384x16x128, .f32⟩
  | 91 => ⟨S16384x1x128, .f32⟩
  | 92 => ⟨S16384x16x128, .f32⟩
  | 93 => ⟨S16384x16x128, .f32⟩
  | 94 => ⟨S16384x16x128, .f32⟩
  | 95 => ⟨S16384x8x128, .f32⟩
  | 96 => ⟨S8x16384x128, .f32⟩
  | 97 => ⟨S16384x8x128, .f32⟩
  | 98 => ⟨S16384x1024, .f32⟩
  | 99 => ⟨S64x256x1024, .f32⟩
  | 100 => ⟨S_, .f32⟩
  | 101 => ⟨S64x1024, .f32⟩
  | 102 => ⟨S64x1x1024, .f32⟩
  | 103 => ⟨S_, .f32⟩
  | 104 => ⟨S64x1x1024, .f32⟩
  | 105 => ⟨S64x1x1024, .f32⟩
  | 106 => ⟨S16384x1024, .f32⟩
  | 107 => ⟨S1024x16384, .f32⟩
  | 108 => ⟨S1024x16384, .bf16⟩
  | 109 => ⟨S_, .f32⟩
  | 110 => ⟨S120, .f32⟩
  | 111 => ⟨S128, .f32⟩
  | 112 => ⟨S1x128, .f32⟩
  | 113 => ⟨S16384x128, .f32⟩
  | 114 => ⟨S16384x128, .f32⟩
  | 115 => ⟨S_, .f32⟩
  | 116 => ⟨S16384x128, .f32⟩
  | 117 => ⟨S16384x128, .f32⟩
  | 118 => ⟨S16384x128, .f32⟩
  | 119 => ⟨S16384x128, .f32⟩
  | 120 => ⟨S16384x128, .f32⟩
  | 121 => ⟨S16384x128, .f32⟩
  | 122 => ⟨S16384x128, .f32⟩
  | 123 => ⟨S_, .f32⟩
  | 124 => ⟨S128x128, .f32⟩
  | 125 => ⟨S128x128, .i32⟩
  | 126 => ⟨S_, .i32⟩
  | 127 => ⟨S128x128, .i32⟩
  | _ => ⟨S16384x11264, .f32⟩

abbrev hbmTy0_1 (i : Nat) : BufTy := match i % 128 with
  | 0 => ⟨S128x128, .i32⟩
  | 1 => ⟨S128x128, .i32⟩
  | 2 => ⟨S128x128, .i1⟩
  | 3 => ⟨S_, .f32⟩
  | 4 => ⟨S128x128, .f32⟩
  | 5 => ⟨S128x128, .f32⟩
  | 6 => ⟨S128x128x128, .f32⟩
  | 7 => ⟨S128x128x128, .f32⟩
  | 8 => ⟨S128x128x128, .f32⟩
  | 9 => ⟨S16384x128, .f32⟩
  | 10 => ⟨S128, .i32⟩
  | 11 => ⟨S_, .i32⟩
  | 12 => ⟨S128, .i32⟩
  | 13 => ⟨S128, .i1⟩
  | 14 => ⟨S16384x128, .i1⟩
  | 15 => ⟨S16384x128, .f32⟩
  | 16 => ⟨S16384x1024, .bf16⟩
  | 17 => ⟨S16384x8, .f32⟩
  | 18 => ⟨S8x16384, .f32⟩
  | _ => ⟨S16384x11264, .f32⟩

abbrev hbmTy (i : Nat) : BufTy := match i / 128 with
  | 0 => hbmTy0_0 i
  | 1 => hbmTy0_1 i
  | _ => ⟨S16384x11264, .f32⟩

abbrev bufTy : (tb : Table) → Fin (tcTables nBuf tb) → BufTy
  | .hbm, ⟨i, _⟩ => hbmTy i
  | _, _ => ⟨S16384x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_7 : Ref sig .tc := ⟨.hbm, 100, rfl⟩
abbrev main_v83 : Ref sig .tc := ⟨.hbm, 101, rfl⟩
abbrev main_v84 : Ref sig .tc := ⟨.hbm, 102, rfl⟩
abbrev main_cst_8 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_9 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_11 : Ref sig .tc := ⟨.hbm, 123, rfl⟩
abbrev main_v102 : Ref sig .tc := ⟨.hbm, 124, rfl⟩
abbrev main_call1_v0 : Ref sig .tc := ⟨.hbm, 125, rfl⟩
abbrev main_call1_c : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_cst : Ref sig .tc := ⟨.hbm, 131, rfl⟩
abbrev main_call1_v5 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_12 : Ref sig .tc := ⟨.hbm, 139, rfl⟩
abbrev main_v109 : Ref sig .tc := ⟨.hbm, 140, rfl⟩
abbrev main_v110 : Ref sig .tc := ⟨.hbm, 141, rfl⟩
abbrev main_call2_v0 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== Proof.GatherWords.lean ====
/- The row gather's index arithmetic: what the printed word computations of the pipelined loop are, at a subcore's
   coordinates and a trip, as plain numbers. Subcore `s` of core `c` serves the 24 windows from `24 * (s + 16 * c)`. -/
module

public import proofs.«01_k».proof.Proof.Gen.KernelIdeal.Skeleton

@[expose] public section

set_option maxRecDepth 16384

noncomputable section

namespace Cert.KernelIdeal.Rows

open Idealize.ShloMosaic Cert.KernelIdeal.Gen

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : L = coordsV (L 0) (L 1) := by
  funext a
  match a with
  | 0 => rfl
  | 1 => rfl

/-- The first window of a subcore. -/
def base (L : grid0.Coords) : ℕ := 24 * ((L 1).val + 16 * (L 0).val)

theorem base_add_lt (L : grid0.Coords) {k : ℕ} (hk : k < 24) : base L + k < 768 := by
  have h0 : (L 0).val < 2 := (L 0).isLt
  have h1 : (L 1).val < 16 := (L 1).isLt
  unfold base; omega

/-- A fact decided at every subcore and trip. -/
theorem atAll {p : grid0.Coords → Fin 24 → Prop}
    (h : ∀ (c : Fin (grid0.bound 0)) (s : Fin (grid0.bound 1)) (k : Fin 24), p (coordsV c s) k) (L : grid0.Coords) (k : Fin 24) : p L k := by
  rw [coordsV_eta L]; exact h _ _ k

theorem trips_eq : k0_t1_loop.trips = 24 := by decide

/-- The words the loop carries before trip `k`: the next slot to fetch into, the slot fetched, the slot to write out, the
    slot whose write is awaited, and the window. -/
def carried (k : ℕ) : BitVec 32 × BitVec 32 × BitVec 32 × BitVec 32 × BitVec 32 :=
  (BitVec.ofNat 32 (min (k + 1) 24), BitVec.ofNat 32 k, BitVec.ofNat 32 k, BitVec.ofNat 32 (k - 1), BitVec.ofNat 32 (k % 24))

theorem carried_zero : carried 0 = (Scalar.addi 0#32 1#32, 0#32, 0#32, 0#32, 0#32) := by decide

/-! ## The offsets -/

/-- Slot `k % 2`, as every slot offset of the program computes it. -/
theorem slot_word (k : Fin 25) : (Scalar.remui (BitVec.ofNat 32 k.val) 2#32).toNat = k.val % 2 := by
  revert k; decide +kernel

theorem off2_eq (L : grid0.Coords) : k0_off2 L = ![0, 256 * base L] := by
  have := atAll (p := fun L _ => k0_off2 L 1 = 256 * base L) (by unfold base; decide +kernel) L 0
  funext a
  match a with
  | 0 => rfl
  | 1 => exact this

theorem off5_eq (L : grid0.Coords) (k : Fin 24) (hk : k.val < 23) : k0_off5 L (BitVec.ofNat 32 (k.val % 24)) = ![0, 256 * (base L + (k.val + 1))] := by
  have := atAll (p := fun L k => k.val < 23 → k0_off5 L (BitVec.ofNat 32 (k.val % 24)) 1 = 256 * (base L + (k.val + 1))) (by unfold base; decide +kernel) L k hk
  funext a
  match a with
  | 0 => rfl
  | 1 => exact this

theorem off13_eq (L : grid0.Coords) (k : Fin 24) : k0_off13 L (BitVec.ofNat 32 (k.val % 24)) = ![256 * (base L + k.val), 0] := by
  have := atAll (p := fun L k => k0_off13 L (BitVec.ofNat 32 (k.val % 24)) 0 = 256 * (base L + k.val)) (by unfold base; decide +kernel) L k
  funext a
  match a with
  | 0 => exact this
  | 1 => rfl

/-! ## The conditions -/

/-- Window `k + 1` is fetched during every trip but the last, -/
theorem cond1_iff (L : grid0.Coords) (k : Fin k0_t1_loop.trips) :
    k0_cond1 L k (BitVec.ofNat 32 (k.val % 24)) = 1#1 ↔ k.val < 23 := by
  rw [coordsV_eta L]; generalize L 0 = c; generalize L 1 = s; revert c s k; decide +kernel
/-- window `k` is awaited in each, -/
theorem cond2_one (L : grid0.Coords) (k : Fin k0_t1_loop.trips) : k0_cond2 L k (BitVec.ofNat 32 (k.val % 24)) = 1#1 := by
  rw [coordsV_eta L]; generalize L 0 = c; generalize L 1 = s; revert c s k; decide +kernel
/-- its rows are written out in each, -/
theorem cond5_one (L : grid0.Coords) (k : Fin k0_t1_loop.trips) : k0_cond5 L k (BitVec.ofNat 32 (k.val % 24)) = 1#1 := by
  rw [coordsV_eta L]; generalize L 0 = c; generalize L 1 = s; revert c s k; decide +kernel
/-- and the rows written in the trip before are awaited in every trip but the first. -/
theorem cond7_iff (L : grid0.Coords) (k : Fin k0_t1_loop.trips) :
    k0_cond7 L k (BitVec.ofNat 32 (k.val % 24)) = 1#1 ↔ 0 < k.val := by
  rw [coordsV_eta L]; generalize L 0 = c; generalize L 1 = s; revert c s k; decide +kernel

/-! ## The assumed side conditions -/

theorem chk2 (k : Fin 24) : k0_chk2 (BitVec.ofNat 32 k.val) := by revert k; decide +kernel
theorem chk3 (k : Fin 24) : k0_chk3 (BitVec.ofNat 32 k.val) := by revert k; decide +kernel
theorem chk4 : k0_chk4 (BitVec.ofNat 32 23) := by decide +kernel
theorem chk5 (L : grid0.Coords) : k0_chk5 L (BitVec.ofNat 32 0) := by
  rw [coordsV_eta L]; generalize L 0 = c; generalize L 1 = s; revert c s; decide +kernel
theorem chk1 (L : grid0.Coords) (k : Fin k0_t1_loop.trips) :
    k0_chk1 L k (BitVec.ofNat 32 (min (k.val + 1) 24)) (BitVec.ofNat 32 k.val) (BitVec.ofNat 32 k.val) (BitVec.ofNat 32 (k.val - 1)) (BitVec.ofNat 32 (k.val % 24)) := by
  rw [coordsV_eta L]; generalize L 0 = c; generalize L 1 = s; revert c s k; decide +kernel

end Cert.KernelIdeal.Rows

end
-- ==== Proof.GatherViews.lean ====
/- The row gather's memory, element by element: the two slots of each scratch buffer, the windows of the list and of the
   result, and what a transfer between them, or the gather of one window, leaves there. -/
module

public import proofs.«01_k».proof.Proof.GatherWords
public import Idealize.ShloMosaic.Lib.SparseCore.Quiescent
public import Idealize.ShloMosaic.Lib.SparseCore.Ops
public import Idealize.ShloMosaic.Lib.SparseCore.Stream
public import Idealize.ShloMosaic.Lib.ValueIdxCore
public import Idealize.ShloMosaic.Lib.ValueLayout
public import Idealize.ShloMosaic.Lib.Tactic

@[expose] public section

set_option maxRecDepth 16384

noncomputable section

namespace Cert.KernelIdeal.Rows

open Idealize.ShloMosaic Idealize.ShloMosaic.ValueIdx Cert.KernelIdeal.Gen
open Idealize.ShloMosaic.SparseCore (gatherPayload rows)

variable {F : FTy → Type} [FloatOps F]

/-! ## The function -/

/-- Entry `t` of the list. -/
def word (ids : S1x196608.Idx → BitVec 32) (t : ℕ) : BitVec 32 := ids (ix2 0 ⟨t % 196608, Nat.mod_lt _ (by decide)⟩)

/-- Every entry of the list names a row of the table. -/
def InRange (ids : S1x196608.Idx → BitVec 32) : Prop := ∀ j, (ids j).toNat < 270336

/-- Row `t` of the result: the table's row that entry `t` names. -/
def gathered (tbl : S270336x128.Idx → Elt F .f32) (ids : S1x196608.Idx → BitVec 32) : S196608x128.Idx → Elt F .f32 :=
  fun j => tbl (ix2 ⟨(word ids (j 0).val).toNat % 270336, Nat.mod_lt _ (by decide)⟩ (j 1))

/-! ## The views the program forms, at any offsets -/

/-- A slot of the list's scratch. -/
abbrev iSlot (off : Fin 3 → ℕ) (h : ∀ a, off a + S1x1x256.size a ≤ S2x1x256.size a) : Memref sig .scVector .vmem S1x256 .i32 :=
  ((Memref.whole cc0_scoped0 : Memref sig .scVector .vmem S2x1x256 .i32).slice (Rect.unit (s := S2x1x256) off S1x1x256.size h) (fun _ => rfl)).squeeze S1x256 squeezes_S1x1x256_S1x256
/-- The same slot as the gather reads it, a list of 256 words. -/
abbrev iList (off : Fin 3 → ℕ) (h : ∀ a, off a + S1x1x256.size a ≤ S2x1x256.size a) : Memref sig .scVector .vmem S256 .i32 :=
  ((iSlot off h).slice (Rect.unit (s := S1x256) ![0, 0] S1x256.size inb_S1x256_S1x256_0_0) (fun _ => rfl)).squeeze S256 squeezes_S1x256_S256
/-- A slot of the rows' scratch. -/
abbrev oSlot (off : Fin 3 → ℕ) (h : ∀ a, off a + S1x256x128.size a ≤ S2x256x128.size a) : Memref sig .scVector .vmem S256x128 .f32 :=
  ((Memref.whole cc0_scoped2 : Memref sig .scVector .vmem S2x256x128 .f32).slice (Rect.unit (s := S2x256x128) off S1x256x128.size h) (fun _ => rfl)).squeeze S256x128 squeezes_S1x256x128_S256x128
/-- A window of the list. -/
abbrev iWin (off : Fin 2 → ℕ) (h : ∀ a, off a + S1x256.size a ≤ S1x196608.size a) : Memref sig .scVector .hbm S1x256 .i32 :=
  (Memref.whole main_v1_scv : Memref sig .scVector .hbm S1x196608 .i32).slice (Rect.unit (s := S1x196608) off S1x256.size h) (fun _ => rfl)
/-- A window of the result's rows. -/
abbrev oWin (off : Fin 2 → ℕ) (h : ∀ a, off a + S256x128.size a ≤ S196608x128.size a) : Memref sig .scVector .hbm S256x128 .f32 :=
  (Memref.whole main_v2_scv : Memref sig .scVector .hbm S196608x128 .f32).slice (Rect.unit (s := S196608x128) off S256x128.size h) (fun _ => rfl)
/-- The table. -/
abbrev tAll : Memref sig .scVector .hbm S270336x128 .f32 :=
  (Memref.whole main_arg0_scv : Memref sig .scVector .hbm S270336x128 .f32).slice (Rect.unit (s := S270336x128) ![0, 0] S270336x128.size inb_S270336x128_S270336x128_0_0) (fun _ => rfl)

/-! ## Their elements -/

/-- The elements of slot `p`, -/
def iSet (p : Fin 2) : Finset S2x1x256.Idx := Finset.univ.filter fun j => (j 0).val = p.val
def oSet (p : Fin 2) : Finset S2x256x128.Idx := Finset.univ.filter fun j => (j 0).val = p.val
/-- of window `n` of the list, -/
def iWinSet (n : ℕ) : Finset S1x196608.Idx := Finset.univ.filter fun j => 256 * n ≤ (j 1).val ∧ (j 1).val < 256 * n + 256
/-- and of the result's rows from window `a` up to window `b`. -/
def oRows (a b : ℕ) : Finset S196608x128.Idx := Finset.univ.filter fun j => 256 * a ≤ (j 0).val ∧ (j 0).val < 256 * b

theorem set_iSlot {off : Fin 3 → ℕ} (h) (p : Fin 2) (hp : off = ![p.val, 0, 0]) : (iSlot off h).view.set = iSet p := by
  subst hp
  refine (View.set_reshape _ _).trans ((View.set_slice_whole _ _).trans ?_)
  ext j
  rw [Rect.mem_set_unit]
  simp only [iSet, Finset.mem_filter, Finset.mem_univ, true_and]
  have h1 : (j 1).val < 1 := (j 1).isLt
  have h2 : (j 2).val < 256 := (j 2).isLt
  constructor
  · intro H; have := H 0; simp at this; omega
  · intro H a
    match a with
    | 0 => simp; omega
    | 1 => simp; omega
    | 2 => simp; omega

theorem set_oSlot {off : Fin 3 → ℕ} (h) (p : Fin 2) (hp : off = ![p.val, 0, 0]) : (oSlot off h).view.set = oSet p := by
  subst hp
  refine (View.set_reshape _ _).trans ((View.set_slice_whole _ _).trans ?_)
  ext j
  rw [Rect.mem_set_unit]
  simp only [oSet, Finset.mem_filter, Finset.mem_univ, true_and]
  have h1 : (j 1).val < 256 := (j 1).isLt
  have h2 : (j 2).val < 128 := (j 2).isLt
  constructor
  · intro H; have := H 0; simp at this; omega
  · intro H a
    match a with
    | 0 => simp; omega
    | 1 => simp; omega
    | 2 => simp; omega

theorem set_iList {off : Fin 3 → ℕ} (h) (p : Fin 2) (hp : off = ![p.val, 0, 0]) : (iList off h).view.set = iSet p := by
  refine ((View.set_reshape _ _).trans (View.set_slice _ _)).trans (Eq.trans ?_ (set_iSlot h p hp))
  have hu : (Rect.unit (s := S1x256) ![0, 0] S1x256.size inb_S1x256_S1x256_0_0).set = Finset.univ := by
    ext j
    have h0 : (j 0).val < 1 := (j 0).isLt
    have h1 : (j 1).val < 256 := (j 1).isLt
    simp only [Rect.mem_set_unit, Finset.mem_univ, iff_true]
    intro a
    match a with
    | 0 => simp; omega
    | 1 => simp; omega
  rw [hu]; rfl

theorem set_iWin {off : Fin 2 → ℕ} (h) (n : ℕ) (hn : off = ![0, 256 * n]) : (iWin off h).view.set = iWinSet n := by
  subst hn
  refine (View.set_slice_whole _ _).trans ?_
  ext j
  rw [Rect.mem_set_unit]
  simp only [iWinSet, Finset.mem_filter, Finset.mem_univ, true_and]
  have h0 : (j 0).val < 1 := (j 0).isLt
  constructor
  · intro H; simpa using H 1
  · intro H a
    match a with
    | 0 => simp; omega
    | 1 => simpa using H

theorem set_oWin {off : Fin 2 → ℕ} (h) (n : ℕ) (hn : off = ![256 * n, 0]) : (oWin off h).view.set = oRows n (n + 1) := by
  subst hn
  refine (View.set_slice_whole _ _).trans ?_
  ext j
  rw [Rect.mem_set_unit]
  simp only [oRows, Finset.mem_filter, Finset.mem_univ, true_and]
  have h1 : (j 1).val < 128 := (j 1).isLt
  constructor
  · intro H; have := H 0; simp at this; omega
  · intro H a
    match a with
    | 0 => simp; omega
    | 1 => simp; omega

theorem set_tAll : tAll.view.set = Finset.univ := by
  refine (View.set_slice_whole _ _).trans ?_
  ext j
  have h0 : (j 0).val < 270336 := (j 0).isLt
  have h1 : (j 1).val < 128 := (j 1).isLt
  simp only [Rect.mem_set_unit, Finset.mem_univ, iff_true]
  intro a
  match a with
  | 0 => simpa using h0
  | 1 => simpa using h1

/-! ## What the slots hold -/

/-- Slot `p` holds window `n` of the list. -/
def IsWindow (ids : S1x196608.Idx → BitVec 32) (p : Fin 2) (n : ℕ) (f : S2x1x256.Idx → BitVec 32) : Prop :=
  ∀ t : Fin 256, f (ix3 p 0 t) = word ids (256 * n + t.val)

/-- Slot `p` holds the result's rows of window `n`. -/
def IsRows (tbl : S270336x128.Idx → Elt F .f32) (ids : S1x196608.Idx → BitVec 32) (p : Fin 2) (n : ℕ) (g : S2x256x128.Idx → Elt F .f32) : Prop :=
  ∀ (r : Fin 256) (l : Fin 128), g (ix3 p r l) = gathered tbl ids (ix2 ⟨(256 * n + r.val) % 196608, Nat.mod_lt _ (by decide)⟩ l)

theorem emb_iSlot (p : Fin 2) (h) (x : S1x256.Idx) : (iSlot ![p.val, 0, 0] h).view.emb x = ix3 p 0 (x 1) := by
  have hx : x = ix2 (x 0) (x 1) := eq_ix2 x
  have h0 : (x 0).val < 1 := (x 0).isLt
  show (Rect.unit (s := S2x1x256) ![p.val, 0, 0] S1x1x256.size h).emb (Shape.reshapeEquiv squeezes_S1x1x256_S1x256.numel_eq x) = _
  rw [hx]
  erw [reshapeEquiv_ix2_1ab]
  funext a
  apply Fin.ext
  rw [Rect.emb_apply]
  match a with
  | 0 => simp
  | 1 => show 0 + 1 * (x 0).val = 0; omega
  | 2 => simp

theorem emb_oSlot (p : Fin 2) (h) (x : S256x128.Idx) : (oSlot ![p.val, 0, 0] h).view.emb x = ix3 p (x 0) (x 1) := by
  have hx : x = ix2 (x 0) (x 1) := eq_ix2 x
  show (Rect.unit (s := S2x256x128) ![p.val, 0, 0] S1x256x128.size h).emb (Shape.reshapeEquiv squeezes_S1x256x128_S256x128.numel_eq x) = _
  rw [hx]
  erw [reshapeEquiv_ix2_1ab]
  funext a
  apply Fin.ext
  rw [Rect.emb_apply]
  match a with
  | 0 => simp
  | 1 => simp
  | 2 => simp

theorem emb_iList (p : Fin 2) (h) (x : S256.Idx) : (iList ![p.val, 0, 0] h).view.emb x = ix3 p 0 (x 0) := by
  have e : Shape.reshapeEquiv squeezes_S1x256_S256.numel_eq x = ix2 (0 : Fin 1) (x 0) :=
    Shape.reshapeEquiv_eq_of_rowMajor _ (by
      refine (Shape.rowMajor_val_two (d := ![1, 256]) (ix2 (0 : Fin 1) (x 0))).trans (Eq.trans ?_ (Shape.rowMajor_val_one (d := ![256]) x).symm)
      show 0 * 256 + (x 0).val = (x 0).val
      omega)
  show (iSlot ![p.val, 0, 0] h).view.emb ((Rect.unit (s := S1x256) ![0, 0] S1x256.size inb_S1x256_S1x256_0_0).emb (Shape.reshapeEquiv squeezes_S1x256_S256.numel_eq x)) = _
  rw [e, emb_iSlot]
  funext a
  apply Fin.ext
  match a with
  | 0 => rfl
  | 1 => rfl
  | 2 => show 0 + 1 * (x 0).val = (x 0).val; omega

theorem emb_iWin (n : ℕ) (hn : n < 768) (h) (x : S1x256.Idx) :
    (iWin ![0, 256 * n] h).view.emb x = ix2 0 ⟨(256 * n + (x 1).val) % 196608, Nat.mod_lt _ (by decide)⟩ := by
  have h0 : (x 0).val < 1 := (x 0).isLt
  have h1 : (x 1).val < 256 := (x 1).isLt
  show (Rect.unit (s := S1x196608) ![0, 256 * n] S1x256.size h).emb x = _
  funext a
  apply Fin.ext
  rw [Rect.emb_apply]
  match a with
  | 0 => simp; omega
  | 1 => simp; omega

theorem emb_oWin (n : ℕ) (hn : n < 768) (h) (x : S256x128.Idx) :
    (oWin ![256 * n, 0] h).view.emb x = ix2 ⟨(256 * n + (x 0).val) % 196608, Nat.mod_lt _ (by decide)⟩ (x 1) := by
  have h0 : (x 0).val < 256 := (x 0).isLt
  show (Rect.unit (s := S196608x128) ![256 * n, 0] S256x128.size h).emb x = _
  funext a
  apply Fin.ext
  rw [Rect.emb_apply]
  match a with
  | 0 => simp; omega
  | 1 => simp

/-- A fetch leaves its slot holding its window. -/
theorem fetched (ids : S1x196608.Idx → BitVec 32) (p : Fin 2) (n : ℕ) (hn : n < 768) {off : Fin 3 → ℕ} (h) (hp : off = ![p.val, 0, 0])
    {off' : Fin 2 → ℕ} (h') (hw : off' = ![0, 256 * n]) (f : S2x1x256.Idx → BitVec 32) :
    IsWindow ids p n ((iSlot off h).view.write (Elt F) f ((iWin off' h').view.read (Elt F) ids) Finset.univ) := by
  subst hp hw
  intro t
  have e := View.read_write_univ (v := (iSlot ![p.val, 0, 0] h).view) (Val := Elt F) f ((iWin ![0, 256 * n] h').view.read (Elt F) ids)
  have e' := congrFun e (ix2 0 t)
  rw [View.read_apply, emb_iSlot] at e'
  refine Eq.trans ?_ (e'.trans ?_)
  · rfl
  · rw [View.read_apply, emb_iWin n hn]; rfl

/-- The list a slot holds, read by the gather: in range, -/
theorem list_lt (ids : S1x196608.Idx → BitVec 32) (hids : InRange ids) (p : Fin 2) (n : ℕ) {off : Fin 3 → ℕ} (h) (hp : off = ![p.val, 0, 0])
    (f : S2x1x256.Idx → BitVec 32) (hf : IsWindow ids p n f) (x : S256.Idx) :
    ((iList off h).view.read (Elt F) f x).toNat < 270336 := by
  subst hp
  rw [View.read_apply, emb_iList]
  exact (congrArg BitVec.toNat (hf (x 0))).trans_lt (hids _)

/-- and the rows it gathers are the result's. -/
theorem gatherWrites (tbl : S270336x128.Idx → Elt F .f32) (ids : S1x196608.Idx → BitVec 32) (hids : InRange ids) (p : Fin 2) (n : ℕ) (hn : n < 768)
    {off : Fin 3 → ℕ} (h) (hp : off = ![p.val, 0, 0]) (f : S2x1x256.Idx → BitVec 32) (hf : IsWindow ids p n f)
    (hin : ∀ x, ((iList off h).view.read (Elt F) f x).toNat < S270336x128.size gathers_S270336x128_S256x128.axis)
    {off' : Fin 3 → ℕ} (h') (hp' : off' = ![p.val, 0, 0]) (g : S2x256x128.Idx → Elt F .f32) :
    IsRows tbl ids p n ((oSlot off' h').view.write (Elt F) g (gatherPayload gathers_S270336x128_S256x128 (tAll.view.read (Elt F) tbl)
      (rows ((iList off h).view.read (Elt F) f) rfl hin)) Finset.univ) := by
  subst hp hp'
  intro r l
  have e := View.read_write_univ (v := (oSlot ![p.val, 0, 0] h').view) (Val := Elt F) g (gatherPayload gathers_S270336x128_S256x128 (tAll.view.read (Elt F) tbl)
      (rows ((iList ![p.val, 0, 0] h).view.read (Elt F) f) rfl hin))
  have e' := congrFun e (ix2 r l)
  rw [View.read_apply, emb_oSlot] at e'
  refine Eq.trans ?_ (e'.trans ?_)
  · rfl
  · unfold gatherPayload gathered
    rw [View.read_apply]
    show tbl _ = tbl _
    congr 1
    funext a
    apply Fin.ext
    show ((Rect.unit (s := S270336x128) ![0, 0] S270336x128.size inb_S270336x128_S270336x128_0_0).emb _ a).val = _
    rw [Rect.emb_apply]
    have hr : r.val < 256 := r.isLt
    match a with
    | 0 =>
      have e0 := congrArg Fin.val (Shape.Gathers.idx_axis gathers_S270336x128_S256x128 (rows ((iList ![p.val, 0, 0] h).view.read (Elt F) f) rfl hin) (ix2 r l))
      show 0 + 1 * (gathers_S270336x128_S256x128.idx (rows ((iList ![p.val, 0, 0] h).view.read (Elt F) f) rfl hin) (ix2 r l) (0 : Fin 2)).val = _
      rw [Nat.zero_add, Nat.one_mul]
      refine e0.trans ?_
      unfold rows
      show (View.read (Elt F) (iList ![p.val, 0, 0] h).view f (S256.rowMajor.symm r)).toNat = _
      rw [View.read_apply, emb_iList]
      have hs : (S256.rowMajor.symm r) 0 = r := by
        apply Fin.ext
        exact (Shape.rowMajor_val_one (d := ![256]) (S256.rowMajor.symm r)).symm.trans (congrArg Fin.val (S256.rowMajor.apply_symm_apply r))
      show (f (ix3 p 0 ((S256.rowMajor.symm r) 0))).toNat = _
      rw [hs, hf]
      have hb : (256 * n + r.val) % 196608 = 256 * n + r.val := Nat.mod_eq_of_lt (by omega)
      show _ = (word ids ((256 * n + r.val) % 196608)).toNat % 270336
      rw [hb]
      exact (Nat.mod_eq_of_lt (hids _)).symm
    | 1 =>
      have e1 := Shape.Gathers.idx_of_ne gathers_S270336x128_S256x128 (rows ((iList ![p.val, 0, 0] h).view.read (Elt F) f) rfl hin) (ix2 r l) (1 : Fin 2) (by decide)
      show 0 + 1 * (gathers_S270336x128_S256x128.idx (rows ((iList ![p.val, 0, 0] h).view.read (Elt F) f) rfl hin) (ix2 r l) (1 : Fin 2)).val = _
      rw [Nat.zero_add, Nat.one_mul]
      exact e1

/-- Writing a slot's rows out leaves the result's rows in the window. -/
theorem written (tbl : S270336x128.Idx → Elt F .f32) (ids : S1x196608.Idx → BitVec 32) (p : Fin 2) (n : ℕ) (hn : n < 768)
    {off : Fin 3 → ℕ} (h) (hp : off = ![p.val, 0, 0]) {off' : Fin 2 → ℕ} (h') (hw : off' = ![256 * n, 0])
    (g : S2x256x128.Idx → Elt F .f32) (hg : IsRows tbl ids p n g) (f : S196608x128.Idx → Elt F .f32) (i : S196608x128.Idx) (hi : i ∈ oRows n (n + 1)) :
    (oWin off' h').view.write (Elt F) f ((oSlot off h).view.read (Elt F) g) Finset.univ i = gathered tbl ids i := by
  rw [← set_oWin h' n hw] at hi
  subst hp hw
  obtain ⟨x, -, hx⟩ := Finset.mem_map.mp hi
  subst hx
  have e := congrFun (View.read_write_univ (v := (oWin ![256 * n, 0] h').view) (Val := Elt F) f ((oSlot ![p.val, 0, 0] h).view.read (Elt F) g)) x
  rw [View.read_apply] at e
  refine Eq.trans ?_ (e.trans ?_)
  · rfl
  · rw [View.read_apply, emb_oSlot, emb_oWin n hn]
    exact hg _ _

end Cert.KernelIdeal.Rows

end
-- ==== Proof.GatherTile.lean ====
/- One subcore's task of the row gather: the pipelined loop over its 24 windows, run from the subcore's share of the table
   and of the list and its own rows of the result, which it leaves at the gathered rows. Over any float values. -/
module

public import proofs.«01_k».proof.Proof.GatherViews
public import Idealize.ShloMosaic.Lib.StableHlo.Run
public import Idealize.ShloMosaic.Lib.Pipeline.Kit

@[expose] public section

set_option maxRecDepth 16384

noncomputable section

namespace Cert.KernelIdeal.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The set-up of the launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev tblLoc (d : Dev nD) : Loc nD τ sig := (SparseCore.T d).loc main_arg0
abbrev idsLoc (d : Dev nD) : Loc nD τ sig := (SparseCore.T d).loc main_v1
abbrev resLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The subcore's thread, its two scratch buffers, and its semaphores. -/
abbrev thr (d : Dev nD) (L : grid0.Coords) : Thread nD τ := V d (cV L) (jV L)
abbrev iBuf (d : Dev nD) (L : grid0.Coords) : Loc nD τ sig := (thr d L).loc cc0_scoped0
abbrev oBuf (d : Dev nD) (L : grid0.Coords) : Loc nD τ sig := (thr d L).loc cc0_scoped2
abbrev semOf (b : DmaSems sig S2) (off : Fin 1 → ℕ) (h : ∀ a, off a + S1.size a ≤ S2.size a) : DmaSem sig :=
  ((b.slice (Rect.unit (s := S2) off S1.size h)).squeeze S_ squeezes_S1_S_).sem
theorem inb_sem (p : Fin 2) : ∀ a, (![p.val] : Fin 1 → ℕ) a + S1.size a ≤ S2.size a := by revert p; decide
abbrev inSem (p : Fin 2) : DmaSem sig := semOf cc0_scoped1 ![p.val] (inb_sem p)
abbrev outSem (p : Fin 2) : DmaSem sig := semOf cc0_scoped3 ![p.val] (inb_sem p)
abbrev gSem : DmaSem sig := (cc0_scoped4 : DmaSems sig S_).sem

/-- The credit of a fetch and of a write-out (or gather): their lengths. -/
def creditI : ℕ := (iSlot ![0, 0, 0] (by decide)).view.dmaCredit
def creditO : ℕ := (oSlot ![0, 0, 0] (by decide)).view.dmaCredit

section Tile

variable (d : Dev nD) (L : grid0.Coords) (tbl : S270336x128.Idx → Elt F .f32) (ids : S1x196608.Idx → BitVec 32)
  (qt : PosShare TreeShare) (qi : Fin 2 → PosShare TreeShare)

/-- Slot `p` of the list's scratch at rest, with its share of the list. -/
def idleIn (p : Fin 2) : sProp 𝕄 :=
  iprop((∃ f : Buf (Elt F) (iBuf d L), iBuf d L ↦[iSet p]{fullShare} f) ∗ semVal (thr d L, SemLoc.dma (inSem p)) 0
    ∗ (idsLoc d ↦{qi p} (ids : Buf (Elt F) (idsLoc d))))

/-- Slot `p` holding window `n` of the list. -/
def heldIn (p : Fin 2) (n : ℕ) : sProp 𝕄 :=
  iprop((∃ f : Buf (Elt F) (iBuf d L), ⌜IsWindow ids p n f⌝ ∗ iBuf d L ↦[iSet p]{fullShare} f) ∗ semVal (thr d L, SemLoc.dma (inSem p)) 0
    ∗ (idsLoc d ↦{qi p} (ids : Buf (Elt F) (idsLoc d))))

/-- Window `n` being fetched into slot `p`. -/
def busyIn (p : Fin 2) (n : ℕ) : sProp 𝕄 :=
  iprop(Transfers.Flight countersEmb (thr d L) (.dma (inSem p)) (default : HIx 1) creditI
      iprop((∃ f : Buf (Elt F) (iBuf d L), ⌜IsWindow ids p n f⌝ ∗ iBuf d L ↦[iSet p]{fullShare} f)
        ∗ (idsLoc d ↦[iWinSet n]{qi p} (ids : Buf (Elt F) (idsLoc d))))
    ∗ (idsLoc d ↦[Finset.univ \ iWinSet n]{qi p} (ids : Buf (Elt F) (idsLoc d))))

/-- Slot `p` of the rows' scratch at rest, -/
def idleOut (p : Fin 2) : sProp 𝕄 :=
  iprop((∃ g : Buf (Elt F) (oBuf d L), oBuf d L ↦[oSet p]{fullShare} g) ∗ semVal (thr d L, SemLoc.dma (outSem p)) 0)

/-- holding the rows of window `n`, -/
def heldOut (p : Fin 2) (n : ℕ) : sProp 𝕄 :=
  iprop((∃ g : Buf (Elt F) (oBuf d L), ⌜IsRows tbl ids p n g⌝ ∗ oBuf d L ↦[oSet p]{fullShare} g) ∗ semVal (thr d L, SemLoc.dma (outSem p)) 0)

/-- or those rows being written out. -/
def busyOut (p : Fin 2) (n : ℕ) : sProp 𝕄 :=
  Transfers.Flight countersEmb (thr d L) (.dma (outSem p)) (default : HIx 1) creditO
    iprop((∃ g : Buf (Elt F) (oBuf d L), oBuf d L ↦[oSet p]{fullShare} g)
      ∗ (resLoc d ↦[oRows n (n + 1)]{fullShare} (gathered tbl ids : Buf (Elt F) (resLoc d))))

/-- What the subcore owes, its own waits beyond the recorded. -/
def dues (O : CellTallies nD τ sig (HIx 1)) (W : Waits sig (HIx 1)) : sProp 𝕄 :=
  iprop(∃ W', ⌜∀ p ∈ W', p ∈ W ∨ p.2 = none⌝ ∗ owes (thr d L) O W')

variable [FloatOps F]

local notation "WP" => wp frame (wpE (defs₀ (F := F)) 𝒱₀ (thr d L) none) Set.univ

/-- A fetch starts. -/
theorem wp_fetch (p : Fin 2) (n : ℕ) (hn : n < 768) {o₁ : Fin 3 → ℕ} (h₁) (e₁ : o₁ = ![p.val, 0, 0]) {o₂ : Fin 2 → ℕ} (h₂) (e₂ : o₂ = ![0, 256 * n])
    {o₃ : Fin 1 → ℕ} (h₃) (e₃ : o₃ = ![p.val]) (a b c) (Q : PUnit → sProp 𝕄) :
    idleIn d L ids qi p ⊢ iprop((busyIn d L ids qi p n -∗ Q ⟨⟩)
      -∗ WP (Prog.lift (.enqueueDma (iWin o₂ h₂) (.here (iSlot o₁ h₁)) (.dma (semOf cc0_scoped1 o₃ h₃)) a b c)) Q) := by
  subst e₃
  have hset := set_iWin h₂ n e₂
  have hslot := set_iSlot h₁ p e₁
  have hf := fun f => fetched (F := F) ids p n hn h₁ e₁ h₂ e₂ f
  unfold idleIn
  iintro ⟨⟨%f, Hb⟩, Hv, Hi⟩ Hk
  ihave Hi' := (pointsTo_split_subset (q := qi p) (f := (ids : Buf (Elt F) (idsLoc d))) (S := Finset.univ) (Finset.subset_univ (iWinSet n))).1 $$ Hi
  icases Hi' with ⟨Hw, Hr⟩
  iapply (Transfers.wp_dmaLocal countersEmb 𝒱₀ (thr d L) none (src := iWin o₂ h₂) (dst := iSlot o₁ h₁) (Sd := iSet p) (q := qi p)
      (fs := (ids : Buf (Elt F) (idsLoc d))) (fd := f) (default : HIx 1) creditI rfl (View.dmaCredit_pos _ (by decide)) (subset_of_eq hslot)) $$ [Hw Hb Hv]
  · isplitl [Hw]; · rw [hset]; iexact Hw
    isplitl [Hb]; · iexact Hb
    iexact Hv
  iintro Hfl
  rw [wp_ret]; imodintro
  iapply Hk
  unfold busyIn
  isplitr [Hr]
  · iapply (Transfers.Flight_mono (D' := iprop((∃ f : Buf (Elt F) (iBuf d L), ⌜IsWindow ids p n f⌝ ∗ iBuf d L ↦[iSet p]{fullShare} f)
        ∗ (idsLoc d ↦[iWinSet n]{qi p} (ids : Buf (Elt F) (idsLoc d))))) ?_) $$ Hfl
    iintro ⟨Hb, Hw⟩
    isplitl [Hb]
    · iexists _; isplitr
      swap; · iexact Hb
      ipureintro; exact hf f
    · rw [← hset]; iexact Hw
  · iexact Hr

/-- A wait that ends a transfer. -/
theorem wp_await {O : CellTallies nD τ sig (HIx 1)} {W : Waits sig (HIx 1)} {sm : DmaSem sig} {N : ℕ} {D : sProp 𝕄}
    {sp sp' : Space} {s s' : Shape} {e e' : EltTy} (src : Memref sig .scVector sp' s' e') (dst : Memref sig .scVector sp s e) (hN : dst.view.dmaCredit = N)
    (a b) (Q : PUnit → sProp 𝕄) :
    iprop(Transfers.Flight countersEmb (thr d L) (.dma sm) (default : HIx 1) N D ∗ dues d L O W ∗ Transfers.MayWaits (thr d L) (default : HIx 1) O)
      ⊢ iprop((iprop(D ∗ semVal (thr d L, SemLoc.dma sm) 0 ∗ dues d L O W) -∗ Q ⟨⟩) -∗ WP (Prog.lift (.waitDma2 sm src dst a b)) Q) := by
  unfold dues
  iintro ⟨Hfl, ⟨%W', %hW, HO⟩, Hmw⟩ Hk
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sm)) $$ Hmw
  iintro ⟨HD, Hv, HO⟩
  rw [wp_ret]; imodintro
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW p hp

/-- A fetch ends: the slot holds its window. -/
theorem wp_fetched {O : CellTallies nD τ sig (HIx 1)} {W : Waits sig (HIx 1)} (p : Fin 2) (n : ℕ) {o₁ : Fin 3 → ℕ} (h₁) {o₂ : Fin 2 → ℕ} (h₂)
    {o₃ : Fin 1 → ℕ} (h₃) (e₃ : o₃ = ![p.val]) (a b) (Q : PUnit → sProp 𝕄) :
    iprop(busyIn d L ids qi p n ∗ dues d L O W ∗ Transfers.MayWaits (thr d L) (default : HIx 1) O)
      ⊢ iprop((iprop(heldIn d L ids qi p n ∗ dues d L O W) -∗ Q ⟨⟩)
        -∗ WP (Prog.lift (.waitDma2 (semOf cc0_scoped1 o₃ h₃) (iWin o₂ h₂) (iSlot o₁ h₁) a b)) Q) := by
  subst e₃
  unfold busyIn heldIn
  iintro ⟨⟨Hfl, Hr⟩, HO, Hmw⟩ Hk
  iapply (wp_await d L (iWin o₂ h₂) (iSlot o₁ h₁) rfl a b Q) $$ [Hfl HO Hmw]
  · isplitl [Hfl]; · iexact Hfl
    isplitl [HO] <;> iassumption
  iintro ⟨⟨Hb, Hw⟩, Hv, HO⟩
  iapply Hk
  isplitr [HO]
  · isplitl [Hb]; · iexact Hb
    isplitl [Hv]; · iexact Hv
    iapply (pointsTo_split_subset (q := qi p) (f := (ids : Buf (Elt F) (idsLoc d))) (S := Finset.univ) (Finset.subset_univ (iWinSet n))).2
    isplitl [Hw] <;> iassumption
  · iexact HO

/-- Rows start to be written out. -/
theorem wp_put (p : Fin 2) (n : ℕ) (hn : n < 768) (f : Buf (Elt F) (resLoc d)) {o₁ : Fin 3 → ℕ} (h₁) (e₁ : o₁ = ![p.val, 0, 0]) {o₂ : Fin 2 → ℕ} (h₂) (e₂ : o₂ = ![256 * n, 0])
    {o₃ : Fin 1 → ℕ} (h₃) (e₃ : o₃ = ![p.val]) (a b c) (Q : PUnit → sProp 𝕄) :
    iprop(heldOut d L tbl ids p n ∗ (resLoc d ↦[oRows n (n + 1)]{fullShare} f)) ⊢ iprop((busyOut d L tbl ids p n -∗ Q ⟨⟩)
      -∗ WP (Prog.lift (.enqueueDma (oSlot o₁ h₁) (.here (oWin o₂ h₂)) (.dma (semOf cc0_scoped3 o₃ h₃)) a b c)) Q) := by
  subst e₃
  have hset := set_oWin h₂ n e₂
  have hslot := set_oSlot h₁ p e₁
  have hf := fun g hg => written (F := F) tbl ids p n hn h₁ e₁ h₂ e₂ g hg f
  unfold heldOut
  iintro ⟨⟨⟨%g, %hg, Hb⟩, Hv⟩, Hw⟩ Hk
  iapply (Transfers.wp_dmaLocal countersEmb 𝒱₀ (thr d L) none (src := oSlot o₁ h₁) (dst := oWin o₂ h₂) (Sd := oRows n (n + 1)) (q := fullShare)
      (fs := g) (fd := f) (default : HIx 1) creditO rfl (View.dmaCredit_pos _ (by decide)) (subset_of_eq hset)) $$ [Hw Hb Hv]
  · isplitl [Hb]; · rw [hslot]; iexact Hb
    isplitl [Hw]; · iexact Hw
    iexact Hv
  iintro Hfl
  rw [wp_ret]; imodintro
  iapply Hk
  unfold busyOut
  iapply (Transfers.Flight_mono ?_) $$ Hfl
  iintro ⟨Hw, Hb⟩
  isplitl [Hb]
  · iexists g; rw [← hslot]; iexact Hb
  · iapply (Entails.of_eq (pointsTo_congr (hf g hg))); iexact Hw

/-- Rows have been written out. -/
theorem wp_putted {O : CellTallies nD τ sig (HIx 1)} {W : Waits sig (HIx 1)} (p : Fin 2) (n : ℕ) {o₁ : Fin 3 → ℕ} (h₁) {o₂ : Fin 2 → ℕ} (h₂)
    {o₃ : Fin 1 → ℕ} (h₃) (e₃ : o₃ = ![p.val]) (a b) (Q : PUnit → sProp 𝕄) :
    iprop(busyOut d L tbl ids p n ∗ dues d L O W ∗ Transfers.MayWaits (thr d L) (default : HIx 1) O)
      ⊢ iprop((iprop(idleOut d L p ∗ (resLoc d ↦[oRows n (n + 1)]{fullShare} (gathered tbl ids : Buf (Elt F) (resLoc d))) ∗ dues d L O W) -∗ Q ⟨⟩)
        -∗ WP (Prog.lift (.waitDma2 (semOf cc0_scoped3 o₃ h₃) (oSlot o₁ h₁) (oWin o₂ h₂) a b)) Q) := by
  subst e₃
  unfold busyOut idleOut
  iintro ⟨Hfl, HO, Hmw⟩ Hk
  iapply (wp_await d L (oSlot o₁ h₁) (oWin o₂ h₂) rfl a b Q) $$ [Hfl HO Hmw]
  · isplitl [Hfl]; · iexact Hfl
    isplitl [HO] <;> iassumption
  iintro ⟨⟨Hb, Hw⟩, Hv, HO⟩
  iapply Hk
  isplitl [Hb Hv]
  · isplitl [Hb] <;> iassumption
  isplitl [Hw] <;> iassumption

/-- What the gather in flight delivers: the slot at window `n`'s rows, and the table's share and the list's slot back. -/
def gotten (p p' : Fin 2) (n : ℕ) : sProp 𝕄 :=
  iprop((∃ g : Buf (Elt F) (oBuf d L), ⌜IsRows tbl ids p' n g⌝ ∗ oBuf d L ↦[oSet p']{fullShare} g)
    ∗ (tblLoc d ↦{qt} (tbl : Buf (Elt F) (tblLoc d)))
    ∗ (∃ f : Buf (Elt F) (iBuf d L), iBuf d L ↦[iSet p]{fullShare} f))

/-- The gather of a window starts, -/
theorem wp_gather (hids : InRange ids) (p : Fin 2) (n : ℕ) (hn : n < 768)
    {o₁ : Fin 3 → ℕ} (h₁) (e₁ : o₁ = ![p.val, 0, 0]) {o₂ : Fin 3 → ℕ} (h₂) (e₂ : o₂ = ![p.val, 0, 0]) (hr) (a b c) (Q : PUnit → sProp 𝕄) :
    iprop((∃ f : Buf (Elt F) (iBuf d L), ⌜IsWindow ids p n f⌝ ∗ iBuf d L ↦[iSet p]{fullShare} f)
        ∗ (∃ g : Buf (Elt F) (oBuf d L), oBuf d L ↦[oSet p]{fullShare} g) ∗ (tblLoc d ↦{qt} (tbl : Buf (Elt F) (tblLoc d))) ∗ semVal (thr d L, SemLoc.dma gSem) 0)
      ⊢ iprop((Transfers.Flight countersEmb (thr d L) (.dma gSem) (default : HIx 1) creditO (gotten d L tbl ids qt p p n) -∗ Q ⟨⟩)
        -∗ WP (SparseCore.enqueueIndirectGather rfl tAll (oSlot o₂ h₂) gathers_S270336x128_S256x128 (iList o₁ h₁) rfl gSem a b c hr) Q) := by
  have hset := set_iList h₁ p e₁
  have hslot := set_oSlot h₂ p e₂
  iintro ⟨⟨%f, %hf, Hb⟩, ⟨%g, Ho⟩, Ht, Hv⟩ Hk
  have hin : ∀ x, ((iList o₁ h₁).view.read (Elt F) f x).toNat < S270336x128.size gathers_S270336x128_S256x128.axis :=
    list_lt ids hids p n h₁ e₁ f hf
  have hN : ∑ j, ((oSlot o₂ h₂).slice (S256x128.rowRect gathers_S270336x128_S256x128.axis' j) (S256x128.stride_rowRect gathers_S270336x128_S256x128.axis' j)).view.dmaCredit = creditO :=
    SparseCore.sum_rowCredit_eq_dmaCredit (oSlot o₂ h₂) gathers_S270336x128_S256x128.axis' fun _ => rfl
  have hw := gatherWrites (F := F) tbl ids hids p n hn h₁ e₁ f hf hin h₂ e₂ g
  have hk : SparseCore.enqueueIndirectGather (F := F) (nD := nD) (Λ := Λ₀) (p := (thr d L).2) rfl tAll (oSlot o₂ h₂) gathers_S270336x128_S256x128 (iList o₁ h₁) rfl gSem a b c hr
      = SparseCore.enqueueIndirectGather rfl tAll (oSlot o₂ h₂) gathers_S270336x128_S256x128 (iList o₁ h₁) rfl gSem a b c hr >>= fun x => .ret x := rfl
  rw [hk]
  iapply (SparseCore.wp_indirectGatherLocal countersEmb 𝒱₀ (thr d L) none (hg := gathers_S270336x128_S256x128) (q := qt) (qo := fullShare)
      (fs := (tbl : Buf (Elt F) (tblLoc d))) (fd := g) (fo := f) (default : HIx 1) creditO hN (by decide) hin) $$ [Hb Ho Ht Hv]
  · isplitl [Ht]; · rw [set_tAll]; iexact Ht
    isplitl [Ho]; · rw [hslot]; iexact Ho
    isplitl [Hb]; · rw [hset]; iexact Hb
    iexact Hv
  iintro Hfl
  rw [wp_ret]; imodintro
  iapply Hk
  iapply (Transfers.Flight_mono ?_) $$ Hfl
  unfold gotten
  iintro ⟨Ho, Ht, Hb⟩
  isplitl [Ho]
  · iexists _; isplitr
    swap; · rw [← hslot]; iexact Ho
    ipureintro; exact hw
  isplitl [Ht]
  · rw [← set_tAll]; iexact Ht
  · iexists f; rw [← hset]; iexact Hb

/-! ## A trip -/

/-- The slot of trip `k`. -/
def par (k : ℕ) : Fin 2 := ⟨k % 2, Nat.mod_lt _ (by decide)⟩

theorem slot3 {k : ℕ} (hk : k < 25) : (![(Scalar.remui (BitVec.ofNat 32 k) 2#32).toNat, 0, 0] : Fin 3 → ℕ) = ![(par k).val, 0, 0] := by
  rw [slot_word ⟨k, hk⟩]; rfl
theorem slot1 {k : ℕ} (hk : k < 25) : (![(Scalar.remui (BitVec.ofNat 32 k) 2#32).toNat] : Fin 1 → ℕ) = ![(par k).val] := by
  rw [slot_word ⟨k, hk⟩]; rfl

/-- The first window of the subcore, as a word. -/
abbrev baseWord (L : grid0.Coords) : BitVec 32 :=
  Scalar.muli (Scalar.addi (Scalar.addi 0#32 (Scalar.muli (BitVec.ofNat 32 (L 1).val) 1#32)) (Scalar.muli (BitVec.ofNat 32 (L 0).val) 16#32)) 24#32

/-- Window `k`'s fetch, under way before trip `k` while there is one. -/
def nextIn (k : ℕ) : sProp 𝕄 := if k < 24 then busyIn d L ids qi (par k) (base L + k) else idleIn d L ids qi (par k)

/-- The write-out of the trip before, if there was one. -/
def lastOut : ℕ → sProp 𝕄
  | 0 => idleOut d L (par 1)
  | j + 1 => busyOut d L tbl ids (par j) (base L + j)

/-- Before trip `k`: window `k` on its way in, the rows of window `k - 1` on their way out, those of the windows before
    in place. -/
def inv (f : Buf (Elt F) (resLoc d)) (O : CellTallies nD τ sig (HIx 1)) (W : Waits sig (HIx 1)) (k : ℕ)
    (acc : BitVec 32 × BitVec 32 × BitVec 32 × BitVec 32 × BitVec 32) : sProp 𝕄 :=
  iprop(⌜acc = carried k⌝ ∗ Transfers.MayWaits (thr d L) (default : HIx 1) O
    ∗ nextIn d L ids qi k ∗ idleIn d L ids qi (par (k + 1))
    ∗ idleOut d L (par k) ∗ lastOut d L tbl ids k
    ∗ (resLoc d ↦[oRows (base L) (base L + (k - 1))]{fullShare} (gathered tbl ids : Buf (Elt F) (resLoc d)))
    ∗ (resLoc d ↦[oRows (base L + k) (base L + 24)]{fullShare} f)
    ∗ (tblLoc d ↦{qt} (tbl : Buf (Elt F) (tblLoc d))) ∗ semVal (thr d L, SemLoc.dma gSem) 0 ∗ dues d L O W)

local notation "ARGS" f => f L (Memref.whole main_arg0_scv) (Memref.isWhole_whole _) (Memref.whole main_v1_scv) (Memref.isWhole_whole _)
  (Memref.whole main_v2_scv) (Memref.isWhole_whole _) (Memref.whole cc0_scoped0) (Memref.isWhole_whole _) cc0_scoped1 (Memref.whole cc0_scoped2) (Memref.isWhole_whole _) cc0_scoped3 cc0_scoped4

/-! The words a trip computes beside the carried ones. -/
abbrev w66 (k : ℕ) : BitVec 32 := Scalar.addi (BitVec.ofNat 32 (k % 24)) (baseWord L)
abbrev w71 (k : ℕ) : BitVec 32 :=
  Scalar.addi (Scalar.select (Scalar.cmpi .eq (Scalar.select 1#1 (Scalar.subi (BitVec.ofNat 32 (k % 24)) 1#32) (BitVec.ofNat 32 (k % 24))) 4294967295#32) 23#32
    (Scalar.select 1#1 (Scalar.subi (BitVec.ofNat 32 (k % 24)) 1#32) (BitVec.ofNat 32 (k % 24)))) (baseWord L)
abbrev w76 (k : ℕ) : BitVec 32 :=
  Scalar.addi (Scalar.select (Scalar.cmpi .eq (Scalar.select 1#1 (Scalar.addi (BitVec.ofNat 32 (k % 24)) 1#32) (BitVec.ofNat 32 (k % 24))) 24#32) 0#32
    (Scalar.select 1#1 (Scalar.addi (BitVec.ofNat 32 (k % 24)) 1#32) (BitVec.ofNat 32 (k % 24)))) (baseWord L)
abbrev wIv (k : ℕ) : BitVec 32 := Scf.iv 0#32 1#32 k
abbrev w64 (k : ℕ) : BitVec 1 := Scalar.cmpi .eq (wIv k) 0#32
abbrev w65 (k : ℕ) : BitVec 1 := Scalar.cmpi .eq (wIv k) 23#32
abbrev w91 (k : ℕ) : BitVec 32 :=
  Scalar.select (Scalar.andi (Scalar.andi (Scalar.cmpi .ne (w66 L k) (w76 L k)) (Scalar.xori (Scalar.cmpi .sge (wIv k) 23#32) 1#1)) 1#1)
    (Scalar.addi (BitVec.ofNat 32 (min (k + 1) 24)) 1#32) (BitVec.ofNat 32 (min (k + 1) 24))
abbrev w96 (k : ℕ) : BitVec 1 := Scalar.cmpi .ne (w66 L k) (w71 L k)

/-- What a trip hands on is what the next carries. -/
theorem yielded (k : Fin k0_t1_loop.trips) :
    (w91 L k.val,
      Scalar.select (Scalar.ori (Scalar.cmpi .ne (w66 L k.val) (w76 L k.val)) (w65 k.val)) (Scalar.addi (BitVec.ofNat 32 k.val) 1#32) (BitVec.ofNat 32 k.val),
      Scalar.select (Scalar.andi (Scalar.ori (Scalar.cmpi .ne (w66 L k.val) (w76 L k.val)) (w65 k.val)) 1#1) (Scalar.addi (BitVec.ofNat 32 k.val) 1#32) (BitVec.ofNat 32 k.val),
      Scalar.select (Scalar.andi (Scalar.andi (Scalar.cmpi .ne (w66 L k.val) (w71 L k.val)) (Scalar.xori (w64 k.val) 1#1)) 1#1)
        (Scalar.addi (BitVec.ofNat 32 (k.val - 1)) 1#32) (BitVec.ofNat 32 (k.val - 1)),
      Scalar.select (Scalar.cmpi .eq (Scalar.select 1#1 (Scalar.addi (BitVec.ofNat 32 (k.val % 24)) 1#32) (BitVec.ofNat 32 (k.val % 24))) 24#32) 0#32
        (Scalar.select 1#1 (Scalar.addi (BitVec.ofNat 32 (k.val % 24)) 1#32) (BitVec.ofNat 32 (k.val % 24)))) = carried (k.val + 1) := by
  rw [coordsV_eta L]; generalize L 0 = c; generalize L 1 = s; revert c s k; decide +kernel

/-- The words carried into trip `k`, one by one. -/
local notation "AT(" k ", " f ")" => f (BitVec.ofNat 32 (min (k + 1) 24)) (BitVec.ofNat 32 k) (BitVec.ofNat 32 k) (BitVec.ofNat 32 (k - 1)) (BitVec.ofNat 32 (k % 24))

/-- The trip's first part: the next window's fetch starts, if there is one. -/
theorem part1 (k : Fin k0_t1_loop.trips) (Q) :
    idleIn d L ids qi (par (k.val + 1))
      ⊢ iprop((nextIn d L ids qi (k.val + 1) -∗ Q ⟨chk3 k, chk2 k, chk1 L k, wIv k, w64 k, w65 k, w66 L k, w71 L k, w76 L k, w91 L k, w96 L k⟩)
        -∗ WP (AT(k.val, (ARGS (k0_part1 (F := F))) (baseWord L) 0#32 1#32 k)) Q) := by
  have hk : k.val < 24 := k.isLt
  rw [k0_part1_eq_skeleton]
  unfold k0_part1_skel
  iintro Hin Hk
  simp only [wp_bind, wp_pure]
  iapply (wp_assume 𝒱₀ (thr d L) none Set.univ (chk3 k))
  rw [wp_ret]; imodintro
  iapply (wp_assume 𝒱₀ (thr d L) none Set.univ (chk2 k))
  rw [wp_ret]; imodintro
  iapply (wp_assume 𝒱₀ (thr d L) none Set.univ (chk1 L k))
  rw [wp_ret]; imodintro
  by_cases h : k.val < 23
  · rw [dif_pos ((cond1_iff L k).mpr h)]
    simp only [wp_bind, wp_pure]
    have hm : min (k.val + 1) 24 = k.val + 1 := by omega
    iapply (wp_fetch d L ids qi (par (k.val + 1)) (base L + (k.val + 1)) (base_add_lt L (by omega)) _ (by rw [hm]; exact slot3 (by omega)) _ (off5_eq L k h)
      _ (by rw [hm]; exact slot1 (by omega)) _ _ _ _) $$ Hin
    iintro Hin
    imodintro
    iapply Hk
    unfold nextIn
    rw [if_pos (by omega)]
    iexact Hin
  · rw [dif_neg (fun e => h ((cond1_iff L k).mp e))]
    simp only [wp_pure]
    imodintro
    iapply Hk
    unfold nextIn
    rw [if_neg (by omega)]
    iexact Hin

/-- The trip's second part: window `k` has arrived, and its rows are gathered. -/
theorem part2 (hids : InRange ids) {O : CellTallies nD τ sig (HIx 1)} {W : Waits sig (HIx 1)} (k : Fin k0_t1_loop.trips) (Q : PUnit → sProp 𝕄) :
    iprop(Transfers.MayWaits (thr d L) (default : HIx 1) O ∗ nextIn d L ids qi k.val ∗ idleOut d L (par k.val)
        ∗ (tblLoc d ↦{qt} (tbl : Buf (Elt F) (tblLoc d))) ∗ semVal (thr d L, SemLoc.dma gSem) 0 ∗ dues d L O W)
      ⊢ iprop((iprop(idleIn d L ids qi (par k.val) ∗ heldOut d L tbl ids (par k.val) (base L + k.val)
          ∗ (tblLoc d ↦{qt} (tbl : Buf (Elt F) (tblLoc d))) ∗ semVal (thr d L, SemLoc.dma gSem) 0 ∗ dues d L O W) -∗ Q ⟨⟩)
        -∗ WP ((AT(k.val, (ARGS (k0_part2 (F := F))) k)) (chk3 k) (chk2 k) (chk1 L k) (wIv k) (w64 k) (w65 k) (w66 L k) (w71 L k) (w76 L k) (w96 L k)) Q) := by
  have hk : k.val < 24 := k.isLt
  rw [k0_part2_eq_skeleton]
  unfold k0_part2_skel nextIn idleOut
  rw [if_pos hk, dif_pos (cond2_one L k)]
  iintro ⟨#Hmw, Hin, ⟨Ho, Hvo⟩, Ht, Hg, HO⟩ Hk
  simp only [wp_bind, wp_pure, ite_self]
  iapply (wp_fetched d L ids qi (par k.val) (base L + k.val) _ _ _ (slot1 (by omega)) _ _ _) $$ [Hin HO]
  · isplitl [Hin]; · iexact Hin
    isplitl [HO]; · iexact HO
    iexact Hmw
  iintro ⟨Hin, HO⟩
  unfold heldIn
  icases Hin with ⟨Hb, Hv, Hi⟩
  iapply (wp_gather d L tbl ids qt hids (par k.val) (base L + k.val) (base_add_lt L hk) _ (slot3 (by omega)) _ (slot3 (by omega)) _ _ _ _ _) $$ [Hb Ho Ht Hg]
  · isplitl [Hb]; · iexact Hb
    isplitl [Ho]; · iexact Ho
    isplitl [Ht] <;> iassumption
  iintro Hfl
  iapply (wp_await d L _ _ rfl _ _ _) $$ [Hfl HO]
  · isplitl [Hfl]; · iexact Hfl
    isplitl [HO]; · iexact HO
    iexact Hmw
  unfold gotten
  iintro ⟨⟨Ho, Ht, Hb⟩, Hg, HO⟩
  imodintro
  iapply Hk
  unfold idleIn heldOut
  isplitl [Hb Hv Hi]
  · isplitl [Hb]; · iexact Hb
    isplitl [Hv] <;> iassumption
  isplitl [Ho Hvo]
  · isplitl [Ho] <;> iassumption
  isplitl [Ht]; · iexact Ht
  isplitl [Hg] <;> iassumption

/-- Adjoining ranges of the result's rows. -/
theorem rows_join {a b c : ℕ} (hab : a ≤ b) (hbc : b ≤ c) (f : Buf (Elt F) (resLoc d)) :
    (resLoc d ↦[oRows a c]{fullShare} f : sProp 𝕄) = iprop((resLoc d ↦[oRows a b]{fullShare} f) ∗ (resLoc d ↦[oRows b c]{fullShare} f)) := by
  have hu : oRows a c = oRows a b ∪ oRows b c := by
    ext j; simp only [oRows, Finset.mem_union, Finset.mem_filter, Finset.mem_univ, true_and]; omega
  have hd : Disjoint (oRows a b) (oRows b c) := by
    rw [Finset.disjoint_left]; intro j; simp only [oRows, Finset.mem_filter, Finset.mem_univ, true_and]; omega
  rw [hu]
  exact BI.Entails.antisymm (pointsTo_union hd).1 (pointsTo_union hd).2

theorem par_pred {k : ℕ} (h : 0 < k) : par (k - 1) = par (k + 1) := Fin.ext (show (k - 1) % 2 = (k + 1) % 2 by omega)
theorem par_succ2 (k : ℕ) : par (k + 1 + 1) = par k := Fin.ext (show (k + 1 + 1) % 2 = k % 2 by omega)

theorem lastOut_pos {k : ℕ} (h : 0 < k) : lastOut d L tbl ids k = busyOut d L tbl ids (par (k - 1)) (base L + (k - 1)) := by
  obtain ⟨j, rfl⟩ : ∃ j, k = j + 1 := ⟨k - 1, by omega⟩
  rfl

/-- One trip of the pipelined loop. -/
theorem trip (hids : InRange ids) (f : Buf (Elt F) (resLoc d)) (O : CellTallies nD τ sig (HIx 1)) (W : Waits sig (HIx 1))
    (k : Fin k0_t1_loop.trips) (acc : BitVec 32 × BitVec 32 × BitVec 32 × BitVec 32 × BitVec 32) :
    inv d L tbl ids qt qi f O W k.val acc
      ⊢ WP ((ARGS (k0_t1_body (F := F))) (baseWord L) k acc) (inv d L tbl ids qt qi f O W (k.val + 1)) := by
  have hk : k.val < 24 := k.isLt
  unfold inv
  iintro ⟨%hacc, #Hmw, Hin, Hin', Hout, Hlast, Hdone, Htodo, Ht, Hg, HO⟩
  obtain ⟨a₁, a₂, a₃, a₄, a₅⟩ := acc
  simp only [carried, Prod.mk.injEq] at hacc
  obtain ⟨rfl, rfl, rfl, rfl, rfl⟩ := hacc
  unfold k0_t1_body
  simp only [wp_bind, wp_pure, ite_self]
  iapply (part1 d L ids qi k _) $$ Hin'
  iintro Hnext
  iapply (part2 d L tbl ids qt qi hids k _) $$ [Hin Hout Ht Hg HO]
  · isplitr; · iexact Hmw
    isplitl [Hin]; · iexact Hin
    isplitl [Hout]; · iexact Hout
    isplitl [Ht]; · iexact Ht
    isplitl [Hg] <;> iassumption
  iintro ⟨Hin', Hout, Ht, Hg, HO⟩
  ihave Htodo' := (Entails.of_eq (rows_join d (a := base L + k.val) (b := base L + k.val + 1) (c := base L + 24) (by omega) (by omega) f)) $$ Htodo
  icases Htodo' with ⟨Hwin, Htodo⟩
  rw [dif_pos (cond5_one L k)]
  simp only [wp_bind, wp_pure]
  iapply (wp_put d L tbl ids (par k.val) (base L + k.val) (base_add_lt L hk) f _ (slot3 (by omega)) _ (off13_eq L k) _ (slot1 (by omega)) _ _ _ _) $$ [Hout Hwin]
  · isplitl [Hout] <;> iassumption
  iintro Hbusy
  by_cases h0 : 0 < k.val
  · rw [dif_pos ((cond7_iff L k).mpr h0)]
    simp only [wp_bind, wp_pure]
    ihave Hlast := (Entails.of_eq (lastOut_pos d L tbl ids h0)) $$ Hlast
    iapply (wp_putted d L tbl ids (par (k.val - 1)) (base L + (k.val - 1)) _ _ _ (slot1 (by omega)) _ _ _) $$ [Hlast HO]
    · isplitl [Hlast]; · iexact Hlast
      isplitl [HO]; · iexact HO
      iexact Hmw
    iintro ⟨Hout, Hrow, HO⟩
    imodintro
    isplitr; · ipureintro; exact yielded L k
    isplitr; · iexact Hmw
    isplitl [Hnext]; · iexact Hnext
    isplitl [Hin']; · rw [par_succ2]; iexact Hin'
    isplitl [Hout]; · rw [← par_pred h0]; iexact Hout
    isplitl [Hbusy]; · rw [lastOut_pos d L tbl ids (Nat.succ_pos k.val)]; iexact Hbusy
    isplitl [Hdone Hrow]
    · have e : base L + (k.val + 1 - 1) = base L + (k.val - 1) + 1 := by omega
      rw [e, rows_join d (a := base L) (b := base L + (k.val - 1)) (c := base L + (k.val - 1) + 1) (by omega) (by omega)]
      isplitl [Hdone] <;> iassumption
    isplitl [Htodo]; · iexact Htodo
    isplitl [Ht]; · iexact Ht
    isplitl [Hg] <;> iassumption
  · rw [dif_neg (fun e => h0 ((cond7_iff L k).mp e))]
    simp only [wp_pure]
    have hz : k.val = 0 := by omega
    imodintro
    isplitr; · ipureintro; exact yielded L k
    isplitr; · iexact Hmw
    isplitl [Hnext]; · iexact Hnext
    isplitl [Hin']; · rw [par_succ2]; iexact Hin'
    isplitl [Hlast]
    · have e : lastOut d L tbl ids k.val = idleOut d L (par (k.val + 1)) := by rw [hz]; rfl
      rw [← e]; iexact Hlast
    isplitl [Hbusy]; · rw [lastOut_pos d L tbl ids (Nat.succ_pos k.val)]; iexact Hbusy
    isplitl [Hdone]; · rw [hz]; iexact Hdone
    isplitl [Htodo]; · iexact Htodo
    isplitl [Ht]; · iexact Ht
    isplitl [Hg] <;> iassumption

/-! ## The task -/

abbrev cell (x : DmaSem sig) : GSem nD τ sig := (thr d L, .dma x)

theorem cell_ne {x y : DmaSem sig} (h : x ≠ y) : cell d L x ≠ cell d L y := fun e => h (SemLoc.dma.inj (Prod.mk.inj e).2)
theorem mem_cell (x : DmaSem sig) (h : (SemLoc.dma x : SemLoc sig).isScoped .scVector = true) : cell d L x ∈ ownCells (thr d L) :=
  mem_ownCells.mpr ⟨rfl, h⟩

omit [FloatOps F] in
/-- The five semaphores of the task are among its own. -/
theorem ownSems0_V :
    (ownSems0 (thr d L) : sProp 𝕄)
      = iprop(semVal (cell d L (inSem 0)) 0 ∗ semVal (cell d L (inSem 1)) 0 ∗ semVal (cell d L (outSem 0)) 0 ∗ semVal (cell d L (outSem 1)) 0 ∗ semVal (cell d L gSem) 0
          ∗ bigSep ((((((ownCells (thr d L)).erase (cell d L (inSem 0))).erase (cell d L (inSem 1))).erase (cell d L (outSem 0))).erase (cell d L (outSem 1))).erase (cell d L gSem))
              fun g => semVal g 0) := by
  unfold SparseCore.Cfg.ownSems0
  rw [SparseCore.bigSep_erase' (mem_cell d L (inSem 0) (by decide)),
    SparseCore.bigSep_erase' (Finset.mem_erase.mpr ⟨cell_ne d L (x := inSem 1) (y := inSem 0) (by decide), mem_cell d L (inSem 1) (by decide)⟩),
    SparseCore.bigSep_erase' (Finset.mem_erase.mpr ⟨cell_ne d L (x := outSem 0) (y := inSem 1) (by decide), Finset.mem_erase.mpr ⟨cell_ne d L (y := inSem 0) (by decide),
      mem_cell d L (outSem 0) (by decide)⟩⟩),
    SparseCore.bigSep_erase' (Finset.mem_erase.mpr ⟨cell_ne d L (x := outSem 1) (y := outSem 0) (by decide), Finset.mem_erase.mpr ⟨cell_ne d L (y := inSem 1) (by decide),
      Finset.mem_erase.mpr ⟨cell_ne d L (y := inSem 0) (by decide), mem_cell d L (outSem 1) (by decide)⟩⟩⟩),
    SparseCore.bigSep_erase' (Finset.mem_erase.mpr ⟨cell_ne d L (x := gSem) (y := outSem 1) (by decide), Finset.mem_erase.mpr ⟨cell_ne d L (y := outSem 0) (by decide),
      Finset.mem_erase.mpr ⟨cell_ne d L (y := inSem 1) (by decide), Finset.mem_erase.mpr ⟨cell_ne d L (y := inSem 0) (by decide), mem_cell d L gSem (by decide)⟩⟩⟩⟩)]

omit [FloatOps F] in
/-- Its two scratch buffers are among its own. -/
theorem ownBufs_V :
    (ownBufs (thr d L) : sProp 𝕄)
      = iprop((∃ f, iBuf d L ↦{fullShare} f) ∗ (∃ f, oBuf d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
/-- The list's scratch is its two slots, -/
theorem iBuf_slots (f : Buf (Elt F) (iBuf d L)) :
    (iBuf d L ↦{fullShare} f : sProp 𝕄) = iprop((iBuf d L ↦[iSet 0]{fullShare} f) ∗ (iBuf d L ↦[iSet 1]{fullShare} f)) := by
  have hd : Disjoint (iSet 0) (iSet 1) := by
    rw [Finset.disjoint_left]; intro j; simp only [iSet, Finset.mem_filter, Finset.mem_univ, true_and]; simp; omega
  have hu : (Finset.univ : Finset S2x1x256.Idx) = iSet 0 ∪ iSet 1 := by
    ext j
    have h0 : (j 0).val < 2 := (j 0).isLt
    simp only [iSet, Finset.mem_union, Finset.mem_filter, Finset.mem_univ, true_and, true_iff]; simp; omega
  show (iBuf d L ↦[(Finset.univ : Finset S2x1x256.Idx)]{fullShare} f : sProp 𝕄) = _
  rw [hu]
  exact BI.Entails.antisymm (pointsTo_union hd).1 (pointsTo_union hd).2

omit [FloatOps F] in
theorem oBuf_slots (f : Buf (Elt F) (oBuf d L)) :
    (oBuf d L ↦{fullShare} f : sProp 𝕄) = iprop((oBuf d L ↦[oSet 0]{fullShare} f) ∗ (oBuf d L ↦[oSet 1]{fullShare} f)) := by
  have hd : Disjoint (oSet 0) (oSet 1) := by
    rw [Finset.disjoint_left]; intro j; simp only [oSet, Finset.mem_filter, Finset.mem_univ, true_and]; simp; omega
  have hu : (Finset.univ : Finset S2x256x128.Idx) = oSet 0 ∪ oSet 1 := by
    ext j
    have h0 : (j 0).val < 2 := (j 0).isLt
    simp only [oSet, Finset.mem_union, Finset.mem_filter, Finset.mem_univ, true_and, true_iff]; simp; omega
  show (oBuf d L ↦[(Finset.univ : Finset S2x256x128.Idx)]{fullShare} f : sProp 𝕄) = _
  rw [hu]
  exact BI.Entails.antisymm (pointsTo_union hd).1 (pointsTo_union hd).2

omit [FloatOps F] in
/-- at whatever each holds. -/
theorem iBuf_join (f g : Buf (Elt F) (iBuf d L)) :
    iprop((iBuf d L ↦[iSet 0]{fullShare} f) ∗ (iBuf d L ↦[iSet 1]{fullShare} g)) ⊢ (iprop(∃ h, iBuf d L ↦{fullShare} h) : sProp 𝕄) := by
  let h : S2x1x256.Idx → BitVec 32 := fun j => if (j 0).val = 0 then (f : S2x1x256.Idx → BitVec 32) j else (g : S2x1x256.Idx → BitVec 32) j
  have e0 : ∀ j ∈ iSet 0, (f : S2x1x256.Idx → BitVec 32) j = h j := fun j hj => by
    have : (j 0).val = 0 := (Finset.mem_filter.mp hj).2
    exact (if_pos this).symm
  have e1 : ∀ j ∈ iSet 1, (g : S2x1x256.Idx → BitVec 32) j = h j := fun j hj => by
    have : (j 0).val = 1 := (Finset.mem_filter.mp hj).2
    exact (if_neg (by omega)).symm
  rw [pointsTo_congr (ℓ := iBuf d L) e0, pointsTo_congr (ℓ := iBuf d L) e1]
  refine (Entails.of_eq (iBuf_slots d L (h : Buf (Elt F) (iBuf d L))).symm).trans ?_
  iintro H; iexists _; iexact H

omit [FloatOps F] in
theorem oBuf_join (f g : Buf (Elt F) (oBuf d L)) :
    iprop((oBuf d L ↦[oSet 0]{fullShare} f) ∗ (oBuf d L ↦[oSet 1]{fullShare} g)) ⊢ (iprop(∃ h, oBuf d L ↦{fullShare} h) : sProp 𝕄) := by
  let h : S2x256x128.Idx → Elt F .f32 := fun j => if (j 0).val = 0 then (f : S2x256x128.Idx → Elt F .f32) j else (g : S2x256x128.Idx → Elt F .f32) j
  have e0 : ∀ j ∈ oSet 0, (f : S2x256x128.Idx → Elt F .f32) j = h j := fun j hj => by
    have : (j 0).val = 0 := (Finset.mem_filter.mp hj).2
    exact (if_pos this).symm
  have e1 : ∀ j ∈ oSet 1, (g : S2x256x128.Idx → Elt F .f32) j = h j := fun j hj => by
    have : (j 0).val = 1 := (Finset.mem_filter.mp hj).2
    exact (if_neg (by omega)).symm
  rw [pointsTo_congr (ℓ := oBuf d L) e0, pointsTo_congr (ℓ := oBuf d L) e1]
  refine (Entails.of_eq (oBuf_slots d L (h : Buf (Elt F) (oBuf d L))).symm).trans ?_
  iintro H; iexists _; iexact H

/-- The subcore's share of the list, one half to each slot. -/
abbrev halves (q : PosShare TreeShare) : Fin 2 → PosShare TreeShare := ![q.left, q.right]

theorem par_zero : par 0 = 0 := rfl
theorem par_one : par 1 = 1 := rfl

omit [FloatOps F] in
theorem owes_dues (O : CellTallies nD τ sig (HIx 1)) (W : Waits sig (HIx 1)) : (owes (thr d L) O W : sProp 𝕄) ⊢ dues (F := F) d L O W := by
  unfold dues
  iintro HO
  iexists W; isplitr
  · ipureintro; exact fun _ hp => .inl hp
  · iexact HO

omit [FloatOps F] in
theorem trips_words : Scf.trips 0#32 (Scalar.addi 0#32 24#32) 1#32 = 24 := by decide

omit [FloatOps F] in
theorem no_rows (f g : Buf (Elt F) (resLoc d)) : ∀ j ∈ oRows (base L) (base L), (f : S196608x128.Idx → Elt F .f32) j = (g : S196608x128.Idx → Elt F .f32) j := by
  intro j hj
  have := (Finset.mem_filter.mp hj).2
  omega

/-- A subcore's part of the arrays: shares of the table and of the list, and its own rows of the result. -/
def part (q : PosShare TreeShare) (g : Buf (Elt F) (resLoc d)) : sProp 𝕄 :=
  iprop((tblLoc d ↦{qt} (tbl : Buf (Elt F) (tblLoc d))) ∗ (idsLoc d ↦{q} (ids : Buf (Elt F) (idsLoc d)))
    ∗ (resLoc d ↦[oRows (base L) (base L + 24)]{fullShare} g))

/-- What the task starts from, -/
def given (q : PosShare TreeShare) (g : Buf (Elt F) (resLoc d)) (O : CellTallies nD τ sig (HIx 1)) (W : Waits sig (HIx 1)) : sProp 𝕄 :=
  iprop(levAts (K (F := F)).L (K (F := F)).lev ∗ emp ∗ part d L tbl ids qt q g
    ∗ scopedBufs (thr d L) ∗ scopedSems0 (thr d L) ∗ owes (thr d L) O W)

/-- and what it ends with. -/
def returned (q : PosShare TreeShare) (O : CellTallies nD τ sig (HIx 1)) (W : Waits sig (HIx 1)) : sProp 𝕄 :=
  iprop(part d L tbl ids qt q (gathered tbl ids : Buf (Elt F) (resLoc d))
    ∗ scopedBufs (thr d L) ∗ scopedSems0 (thr d L) ∗ ∃ W', ⌜∀ p ∈ W', p ∈ W ∨ p.2 = none⌝ ∗ owes (thr d L) O W')

/-- The task of one subcore: from its part of the arrays, its rows are gathered; everything else comes back. -/
theorem task (hF : (K (F := F)).Facts) (hids : InRange ids) (q : PosShare TreeShare) (f : Buf (Elt F) (resLoc d))
    (O : CellTallies nD τ sig (HIx 1)) (W : Waits sig (HIx 1)) (hO : ∀ g, O g none = 0) :
    given d L tbl ids qt q f O W ⊢ WP (ARGS (cc0_k (F := F))) (fun _ => returned d L tbl ids qt q O W) := by
  unfold given returned part
  rw [cc0_k_eq_skeleton]
  unfold cc0_k_skel
  rw [(K (F := F)).scopedBufs_V hF d (cV L) (jV L), SparseCore.Cfg.scopedSems0_V (Val := Elt F) d (cV L) (jV L), ownSems0_V (F := F), ownBufs_V (F := F)]
  iintro ⟨#Hlv, -, ⟨Ht, Hi, Hr⟩, ⟨⟨%fi, Hib⟩, ⟨%fo, Hob⟩, Hbufs⟩, ⟨Hv0, Hv1, Hw0, Hw1, Hg, Hsems⟩, HO⟩
  ihave #Hmw := (show levAts (K (F := F)).L (K (F := F)).lev ⊢ Transfers.MayWaits (thr d L) (default : HIx 1) O from
    (K (F := F)).mayWaits_none (thr := thr d L) hO) $$ Hlv
  ihave Hib' := (Entails.of_eq (iBuf_slots d L fi)) $$ Hib
  icases Hib' with ⟨Hi0, Hi1⟩
  ihave Hob' := (Entails.of_eq (oBuf_slots d L fo)) $$ Hob
  icases Hob' with ⟨Ho0, Ho1⟩
  ihave Hsh := (pointsTo_share (PosShare.mem_left_op_right q)).1 $$ Hi
  icases Hsh with ⟨Hs0, Hs1⟩
  ihave HO' := (owes_dues d L O W) $$ HO
  simp only [wp_bind, wp_pure, k0_part3_eq_skeleton, k0_part4_eq_skeleton]
  unfold k0_part3_skel
  simp only [wp_bind, wp_pure]
  iapply (wp_fetch d L ids (halves q) 0 (base L) (base_add_lt L (k := 0) (by decide)) _ (by rfl) _ (off2_eq L) _ (by rfl) _ _ _ _) $$ [Hi0 Hv0 Hs0]
  · unfold idleIn
    isplitl [Hi0]; · iexists _; iexact Hi0
    isplitl [Hv0]; · iexact Hv0
    iexact Hs0
  iintro Hbusy
  imodintro
  unfold k0_part4_skel
  simp only [wp_bind, wp_pure]
  ihave Hr' := (Entails.of_eq (rows_join d (a := base L) (b := base L) (c := base L + 24) le_rfl (by omega) f)) $$ Hr
  icases Hr' with ⟨Hr0, Hr⟩
  iapply (Scf.wp_for _ _ _ _ _ _ _ _ _ (inv d L tbl ids qt (halves q) f O W) (trip d L tbl ids qt (halves q) hids f O W))
  isplitr [Hbufs Hsems]
  · unfold inv
    isplitr; · ipureintro; exact carried_zero.symm
    isplitr; · iexact Hmw
    isplitl [Hbusy]; · unfold nextIn; rw [if_pos (by decide)]; iexact Hbusy
    isplitl [Hi1 Hv1 Hs1]
    · unfold idleIn
      isplitl [Hi1]; · iexists _; iexact Hi1
      isplitl [Hv1]; · iexact Hv1
      iexact Hs1
    isplitl [Ho0 Hw0]
    · unfold idleOut
      isplitl [Ho0]; · iexists _; iexact Ho0
      iexact Hw0
    isplitl [Ho1 Hw1]
    · unfold lastOut idleOut
      isplitl [Ho1]; · iexists _; iexact Ho1
      iexact Hw1
    isplitl [Hr0]; · iapply (Entails.of_eq (pointsTo_congr (no_rows d L _ _))) $$ Hr0
    isplitl [Hr]; · iexact Hr
    isplitl [Ht]; · iexact Ht
    isplitl [Hg] <;> iassumption
  iintro %acc Hinv
  ihave Hinv := (Entails.of_eq (congrArg (fun k => inv d L tbl ids qt (halves q) f O W k acc) trips_words)) $$ Hinv
  unfold inv
  icases Hinv with ⟨%hacc, -, Hin, Hin', Hout, Hlast, Hdone, -, Ht, Hg, HO⟩
  obtain ⟨a₁, a₂, a₃, a₄, a₅⟩ := acc
  simp only [carried, Prod.mk.injEq] at hacc
  obtain ⟨rfl, rfl, rfl, rfl, rfl⟩ := hacc
  iapply (wp_assume 𝒱₀ (thr d L) none Set.univ (chk5 L))
  rw [wp_ret]; imodintro
  iapply (wp_assume 𝒱₀ (thr d L) none Set.univ chk4)
  rw [wp_ret]; imodintro
  imodintro
  unfold lastOut
  iapply (wp_putted d L tbl ids (par 23) (base L + 23) _ _ _ (by rfl) _ _ _) $$ [Hlast HO]
  · isplitl [Hlast]; · iexact Hlast
    isplitl [HO]; · iexact HO
    iexact Hmw
  iintro ⟨Hlast, Hrow, HO⟩
  imodintro
  ihave Hin := (Entails.of_eq (show nextIn d L ids (halves q) 24 = idleIn d L ids (halves q) (par 24) from if_neg (by decide))) $$ Hin
  unfold idleIn idleOut dues
  icases Hin with ⟨⟨%i0, Hi0⟩, Hv0, Hs0⟩
  icases Hin' with ⟨⟨%i1, Hi1⟩, Hv1, Hs1⟩
  icases Hout with ⟨⟨%o0, Ho0⟩, Hw0⟩
  icases Hlast with ⟨⟨%o1, Ho1⟩, Hw1⟩
  isplitl [Ht Hs0 Hs1 Hdone Hrow]
  · isplitl [Ht]; · iexact Ht
    isplitl [Hs0 Hs1]
    · iapply (pointsTo_share (PosShare.mem_left_op_right q)).2
      isplitl [Hs0]; · iexact Hs0
      iexact Hs1
    · rw [rows_join d (a := base L) (b := base L + 23) (c := base L + 24) (by omega) (by omega)]
      isplitl [Hdone]; · iexact Hdone
      iexact Hrow
  isplitl [Hi0 Hi1 Ho0 Ho1 Hbufs]
  · isplitl [Hi0 Hi1]
    · iapply (iBuf_join d L i0 i1)
      isplitl [Hi0]; · iexact Hi0
      iexact Hi1
    isplitl [Ho0 Ho1]
    · iapply (oBuf_join d L o0 o1)
      isplitl [Ho0]; · iexact Ho0
      iexact Ho1
    · iexact Hbufs
  isplitl [Hv0 Hv1 Hw0 Hw1 Hg Hsems]
  · isplitl [Hv0]; · iexact Hv0
    isplitl [Hv1]; · iexact Hv1
    isplitl [Hw0]; · iexact Hw0
    isplitl [Hw1]; · iexact Hw1
    isplitl [Hg] <;> iassumption
  · iexact HO

end Tile

end Cert.KernelIdeal.Rows

end
-- ==== Proof.GatherLaunch.lean ====
/- The launch of the row gather: the arrays are dealt to the 32 subcores, each gathers its rows, and the host's reshapes
   frame the call. What a run leaves: the arguments, and the gathered rows at the result's shape. Over any float values. -/
module

public import proofs.«01_k».proof.Proof.GatherTile
public import Idealize.ShloMosaic.Lib.SparseCore.Quiescent
public import Idealize.ShloMosaic.Lib.ShareLeaves

@[expose] public section

set_option maxRecDepth 16384

noncomputable section

namespace Cert.KernelIdeal.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Dealing the arrays -/

section Deal

variable (d : Dev nD) (tbl : S270336x128.Idx → Elt F .f32) (ids : S1x196608.Idx → BitVec 32)

/-- The share of the read arrays that subcore `i` of core `c` gets. -/
abbrev shareOf (c : Fin 2) (i : Fin 16) : PosShare TreeShare := leaf 4 (leaf 1 fullShare c) i

/-- Its part of the arrays. -/
def partOf (g : Buf (Elt F) (resLoc d)) (c : Fin 2) (i : Fin 16) : sProp 𝕄 :=
  part d (coordsV c i) tbl ids (shareOf c i) (shareOf c i) g

/-- The three arrays, whole. -/
def arrays (g : Buf (Elt F) (resLoc d)) : sProp 𝕄 :=
  iprop((tblLoc d ↦{fullShare} (tbl : Buf (Elt F) (tblLoc d))) ∗ (idsLoc d ↦{fullShare} (ids : Buf (Elt F) (idsLoc d)))
    ∗ (resLoc d ↦{fullShare} g))

/-- A read array is its 32 shares. -/
theorem shares {ℓ : Loc nD τ sig} (f : Buf (Elt F) ℓ) :
    (ℓ ↦{fullShare} f : sProp 𝕄) = bigSep Finset.univ fun c : Fin 2 => bigSep Finset.univ fun i : Fin 16 => ℓ ↦{shareOf c i} f :=
  (pointsTo_leaves Finset.univ f 1 fullShare).trans (bigSep_congr fun c _ => pointsTo_leaves Finset.univ f 4 (leaf 1 fullShare c))

/-- Consecutive ranges of rows of equal length cover the range they span. -/
theorem rows_cover {n : ℕ} (a l : ℕ) :
    (Finset.univ : Finset (Fin n)).biUnion (fun i => oRows (a + l * i.val) (a + l * i.val + l)) = oRows a (a + l * n) := by
  ext j
  simp only [oRows, Finset.mem_biUnion, Finset.mem_filter, Finset.mem_univ, true_and]
  generalize (j 0).val = x
  constructor
  · rintro ⟨i, h1, h2⟩
    have : l * i.val + l ≤ l * n := by rw [← Nat.mul_succ]; exact Nat.mul_le_mul_left _ i.isLt
    omega
  · rintro ⟨h1, h2⟩
    rcases Nat.eq_zero_or_pos l with rfl | hl
    · omega
    have hx : (x / 256 - a) / l < n := by
      rw [Nat.div_lt_iff_lt_mul hl, Nat.mul_comm]; omega
    refine ⟨⟨(x / 256 - a) / l, hx⟩, ?_⟩
    have e := Nat.div_add_mod (x / 256 - a) l
    have := Nat.mod_lt (x / 256 - a) hl
    constructor <;> simp only <;> omega

theorem rows_apart {n : ℕ} (a l : ℕ) : ∀ i ∈ (Finset.univ : Finset (Fin n)), ∀ i' ∈ (Finset.univ : Finset (Fin n)), i ≠ i' →
    Disjoint (oRows (a + l * i.val) (a + l * i.val + l)) (oRows (a + l * i'.val) (a + l * i'.val + l)) := by
  intro i _ i' _ h
  rw [Finset.disjoint_left]; intro j
  simp only [oRows, Finset.mem_filter, Finset.mem_univ, true_and]
  have h' : i.val ≠ i'.val := fun e => h (Fin.ext e)
  rcases Nat.lt_or_gt_of_ne h' with hlt | hlt
  · have : l * i.val + l ≤ l * i'.val := by rw [← Nat.mul_succ]; exact Nat.mul_le_mul_left _ hlt
    omega
  · have : l * i'.val + l ≤ l * i.val := by rw [← Nat.mul_succ]; exact Nat.mul_le_mul_left _ hlt
    omega

theorem rows_deal {n : ℕ} (a l : ℕ) (g : Buf (Elt F) (resLoc d)) :
    (resLoc d ↦[oRows a (a + l * n)]{fullShare} g : sProp 𝕄)
      = bigSep Finset.univ fun i : Fin n => resLoc d ↦[oRows (a + l * i.val) (a + l * i.val + l)]{fullShare} g := by
  rw [← rows_cover]
  exact pointsTo_biUnion Finset.univ (ℓ := resLoc d) _ (rows_apart a l)

theorem rows_all : (Finset.univ : Finset S196608x128.Idx) = oRows 0 (0 + 384 * 2) := by
  ext j
  have : (j 0).val < 196608 := (j 0).isLt
  simp only [oRows, Finset.mem_filter, Finset.mem_univ, true_and, true_iff]
  omega

/-- The result is the subcores' rows. -/
theorem rows_split (g : Buf (Elt F) (resLoc d)) :
    (resLoc d ↦{fullShare} g : sProp 𝕄) = bigSep Finset.univ fun c : Fin 2 => bigSep Finset.univ fun i : Fin 16 =>
      resLoc d ↦[oRows (base (coordsV c i)) (base (coordsV c i) + 24)]{fullShare} g := by
  show (resLoc d ↦[(Finset.univ : Finset S196608x128.Idx)]{fullShare} g : sProp 𝕄) = _
  rw [rows_all, rows_deal d 0 384 g]
  refine bigSep_congr fun c _ => ?_
  rw [show 0 + 384 * c.val + 384 = (384 * c.val) + 24 * 16 by omega, show 0 + 384 * c.val = 384 * c.val by omega, rows_deal d (384 * c.val) 24 g]
  refine bigSep_congr fun i _ => ?_
  rw [show base (coordsV c i) = 384 * c.val + 24 * i.val from (show 24 * (i.val + 16 * c.val) = _ by omega)]

/-- The arrays are the subcores' parts. -/
theorem deal (g : Buf (Elt F) (resLoc d)) :
    (arrays d tbl ids g : sProp 𝕄) = bigSep Finset.univ fun c : Fin 2 => bigSep Finset.univ fun i : Fin 16 => partOf d tbl ids g c i := by
  unfold arrays partOf part
  simp only [bigSep_sep']
  rw [shares (ℓ := tblLoc d), shares (ℓ := idsLoc d), rows_split]

end Deal

/-! ## What the call carries -/

variable (m : (ℓ : Loc nD τ sig) → Buf (Elt F) ℓ) (ρ : Dev nD → PrngReg)

/-- The list as the call takes it: the argument's, in row-major order. -/
def listOf (d : Dev nD) : S1x196608.Idx → BitVec 32 :=
  shapeCast S1x196608 (shapeCast S196608 (m ((SparseCore.T d).loc main_arg1)) shapeCasts_S4x3x16384_S196608) shapeCasts_S196608_S1x196608

/-- The rows the call leaves. -/
abbrev rowsOf (d : Dev nD) : Buf (Elt F) (resLoc d) := gathered (m (tblLoc d)) (listOf m d)

variable [FloatOps F]

/-- Each subcore is handed its part, and hands it back with its rows gathered. -/
def P : (K (F := F)).Pay (nD := nD) (Val := Elt F) (Name := ℕ) (U := UU) where
  st := fun q d c => match q with | 0 => bigSep Finset.univ fun i : Fin 16 => partOf d (m (tblLoc d)) (listOf m d) (m (resLoc d)) (c : Fin 2) i
  dn := fun q d c => match q with | 0 => bigSep Finset.univ fun i : Fin 16 => partOf d (m (tblLoc d)) (listOf m d) (rowsOf m d) (c : Fin 2) i
  go := fun q d c i => match q with | 0 => partOf d (m (tblLoc d)) (listOf m d) (m (resLoc d)) (c : Fin 2) (i : Fin 16)
  td := fun q d c i => match q with | 0 => partOf d (m (tblLoc d)) (listOf m d) (rowsOf m d) (c : Fin 2) (i : Fin 16)
  x := fun _ _ => iprop(emp)

instance partOf_storable (d : Dev nD) (tbl : S270336x128.Idx → Elt F .f32) (ids : S1x196608.Idx → BitVec 32) (g : Buf (Elt F) (resLoc d)) (c : Fin 2) (i : Fin 16) :
    BI.Storable (upEmb : UEmb _ 𝕄) (partOf d tbl ids g c i) := by
  unfold partOf part; infer_instance

instance P_storable : (P (F := F) m).IsStorable where
  st q d c := match q with
    | 0 => (inferInstance : BI.Storable (upEmb : UEmb _ 𝕄) (bigSep Finset.univ fun i : Fin 16 => partOf d (m (tblLoc d)) (listOf m d) (m (resLoc d)) (c : Fin 2) i))
  dn q d c := match q with
    | 0 => (inferInstance : BI.Storable (upEmb : UEmb _ 𝕄) (bigSep Finset.univ fun i : Fin 16 => partOf d (m (tblLoc d)) (listOf m d) (rowsOf m d) (c : Fin 2) i))
  go q d c i := match q with
    | 0 => partOf_storable d _ _ _ (c : Fin 2) (i : Fin 16)
  td q d c i := match q with
    | 0 => partOf_storable d _ _ _ (c : Fin 2) (i : Fin 16)

/-! ## The task's obligation -/

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_v1_scv) (Memref.isWhole_whole _)
          (Memref.whole main_v2_scv) (Memref.isWhole_whole _) (Memref.whole cc0_scoped0) (Memref.isWhole_whole _) cc0_scoped1
          (Memref.whole cc0_scoped2) (Memref.isWhole_whole _) cc0_scoped3 cc0_scoped4) ⟨⟩ c s := rfl

/-- What a task returns, at the call. -/
theorem returned_obl (d : Dev nD) (L : grid0.Coords) (tbl : S270336x128.Idx → Elt F .f32) (ids : S1x196608.Idx → BitVec 32)
    (qt q : PosShare TreeShare) (O : CellTallies nD τ sig (HIx 1)) (W : Waits sig (HIx 1)) (k : Fin 1) :
    returned d L tbl ids qt q O W ⊢ iprop(part d L tbl ids qt q (gathered tbl ids : Buf (Elt F) (resLoc d))
      ∗ scopedBufs (thr d L) ∗ scopedSems0 (thr d L) ∗ ∃ W', ⌜∀ p ∈ W', p ∈ W ∨ p.2 = none ∨ p.2 = some k⌝ ∗ owes (thr d L) O W') := by
  unfold returned
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hids : ∀ d, InRange (listOf m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) (m (tblLoc d)) (listOf m d) (shareOf c i) facts (hids d) (shareOf c i) (m (resLoc d)) O W hO).trans
    (wp_mono frame _ _ fun _ => returned_obl d _ _ _ _ _ O W _)

/-- The core's part is its subcores'. -/
theorem vecSplit : (K (F := F)).VecSplit' (P m) 0 := by
  intro d c
  show (bigSep Finset.univ fun i : Fin 16 => partOf d (m (tblLoc d)) (listOf m d) (m (resLoc d)) (c : Fin 2) i) ⊢ |={Set.univ}=> iprop(
      (bigSep Finset.univ fun i : Fin 16 => partOf d (m (tblLoc d)) (listOf m d) (m (resLoc d)) (c : Fin 2) i)
      ∗ ((bigSep Finset.univ fun i : Fin 16 => partOf d (m (tblLoc d)) (listOf m d) (rowsOf m d) (c : Fin 2) i)
          -∗ bigSep Finset.univ fun i : Fin 16 => partOf d (m (tblLoc d)) (listOf m d) (rowsOf m d) (c : Fin 2) i))
  iintro H; imodintro
  isplitl [H]; · iexact H
  iintro H; iexact H

/-! ## The launch's ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The host's program -/

abbrev rArg0 : DevRef τ sig := Proc.devRef .tc (main_arg0 : Ref sig .tc)
abbrev rArg1 : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev opFlat : HloOp τ sig (Elt F) := StableHlo.reshape main_arg1 main_v0 (rfl : (.i32 : EltTy) = .i32) shapeCasts_S4x3x16384_S196608
abbrev opRow : HloOp τ sig (Elt F) := StableHlo.reshape main_v0 main_v1 (rfl : (.i32 : EltTy) = .i32) shapeCasts_S196608_S1x196608
abbrev opOut : HloOp τ sig (Elt F) := StableHlo.reshape main_v2 main_v3 (rfl : (.f32 : EltTy) = .f32) shapeCasts_S196608x128_S4x3x16384x128

/-- The host's arrays. -/
abbrev S6 : Finset (DevRef τ sig) := {rArg0, rArg1, r0, r1, r2, r3}

omit [FloatOps F] in
theorem held_S6 (d : Dev nD) (W : Valuation τ sig (Elt F)) :
    (held (T d) S6 W : sProp 𝕄)
      = iprop((tblLoc d ↦{fullShare} W rArg0) ∗ ((SparseCore.T d).loc main_arg1 ↦{fullShare} W rArg1) ∗ ((SparseCore.T d).loc main_v0 ↦{fullShare} W r0)
          ∗ (idsLoc d ↦{fullShare} W r1) ∗ (resLoc d ↦{fullShare} W r2) ∗ (SparseCore.T d).loc main_v3 ↦{fullShare} W r3) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tblLoc d ↦{fullShare} W main_arg0) ∗ ((SparseCore.T d).loc main_arg1 ↦{fullShare} W main_arg1) ∗ ((SparseCore.T d).loc main_v0 ↦{fullShare} W main_v0)
          ∗ (idsLoc d ↦{fullShare} W main_v1) ∗ (resLoc d ↦{fullShare} W main_v2) ∗ (SparseCore.T d).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the arrays hold at the launch, before the call, and after it. -/
def V0 (d : Dev nD) : Valuation τ sig (Elt F) := fun b => m (d, b)
def V2 (d : Dev nD) : Valuation τ sig (Elt F) := (opRow (F := F)).result ((opFlat (F := F)).result (V0 m d))
def V3 (d : Dev nD) : Valuation τ sig (Elt F) := Function.update (V2 m d) r2 (rowsOf m d)

theorem unscoped_held (d : Dev nD) : (unscopedBufs d (fun b => m ((SparseCore.T d).loc b)) : sProp 𝕄) = held (T d) S6 (V0 m d) := by
  rw [unscopedBufs_eq, held_S6]; rfl

theorem V2_other (d : Dev nD) {b : DevRef τ sig} (h0 : b ∉ ({r0} : Finset (DevRef τ sig))) (h1 : b ∉ ({r1} : Finset (DevRef τ sig))) : V2 m d b = m (d, b) := by
  unfold V2
  rw [(opRow (F := F)).result_of_not_mem _ h1, (opFlat (F := F)).result_of_not_mem _ h0]; rfl

theorem V2_list (d : Dev nD) : V2 m d r1 = (listOf m d : Buf (Elt F) (idsLoc d)) := by
  unfold V2
  refine (StableHlo.reshape_result main_v0 main_v1 _ _ _ _ _).trans ?_
  have e : (opFlat (F := F)).result (V0 m d) r0 = (shapeCast S196608 (m ((SparseCore.T d).loc main_arg1)) shapeCasts_S4x3x16384_S196608 : S196608.Idx → BitVec 32) :=
    StableHlo.reshape_result main_arg1 main_v0 _ _ _ _ _
  unfold listOf
  rw [← e]
  rfl

/-- The result: the gathered rows at the result's shape. -/
def resultOf (d : Dev nD) : S4x3x16384x128.Idx → Elt F .f32 :=
  shapeCast S4x3x16384x128 (rowsOf m d : S196608x128.Idx → Elt F .f32) shapeCasts_S196608x128_S4x3x16384x128

theorem st0_eq (d : Dev nD) : (bigSep Finset.univ fun c : Fin ((K (F := F)).nCore 0) => (P m).st 0 d c) = arrays d (m (tblLoc d)) (listOf m d) (m (resLoc d)) :=
  (deal d (m (tblLoc d)) (listOf m d) (m (resLoc d))).symm
theorem dn0_eq (d : Dev nD) : (bigSep Finset.univ fun c : Fin ((K (F := F)).nCore 0) => (P m).dn 0 d c) = arrays d (m (tblLoc d)) (listOf m d) (rowsOf m d) :=
  (deal d (m (tblLoc d)) (listOf m d) (rowsOf m d)).symm

theorem hFlat : (opFlat (F := F)).bufs ⊆ S6 := show ({rArg1, r0} : Finset (DevRef τ sig)) ⊆ S6 by decide
theorem hRow : (opRow (F := F)).bufs ⊆ S6 := show ({r0, r1} : Finset (DevRef τ sig)) ⊆ S6 by decide
theorem hOut : (opOut (F := F)).bufs ⊆ S6 := show ({r2, r3} : Finset (DevRef τ sig)) ⊆ S6 by decide

/-- The arrays before the call, -/
theorem held_V2 (d : Dev nD) :
    (held (T d) S6 ((opRow (F := F)).result ((opFlat (F := F)).result (V0 m d))) : sProp 𝕄)
      = iprop((tblLoc d ↦{fullShare} m (tblLoc d)) ∗ ((SparseCore.T d).loc main_arg1 ↦{fullShare} m ((SparseCore.T d).loc main_arg1))
          ∗ ((SparseCore.T d).loc main_v0 ↦{fullShare} V2 m d r0)
          ∗ (idsLoc d ↦{fullShare} (listOf m d : Buf (Elt F) (idsLoc d))) ∗ (resLoc d ↦{fullShare} m (resLoc d))
          ∗ (SparseCore.T d).loc main_v3 ↦{fullShare} m ((SparseCore.T d).loc main_v3)) := by
  show held (SparseCore.T d) S6 (V2 m d) = _
  rw [held_S6, V2_list, V2_other m d (b := rArg0) (by decide) (by decide), V2_other m d (b := rArg1) (by decide) (by decide),
    V2_other m d (b := r2) (by decide) (by decide), V2_other m d (b := r3) (by decide) (by decide)]

/-- after it, -/
theorem held_V3 (d : Dev nD) :
    (held (T d) S6 (V3 m d) : sProp 𝕄)
      = iprop((tblLoc d ↦{fullShare} m (tblLoc d)) ∗ ((SparseCore.T d).loc main_arg1 ↦{fullShare} m ((SparseCore.T d).loc main_arg1))
          ∗ ((SparseCore.T d).loc main_v0 ↦{fullShare} V2 m d r0)
          ∗ (idsLoc d ↦{fullShare} (listOf m d : Buf (Elt F) (idsLoc d))) ∗ (resLoc d ↦{fullShare} rowsOf m d)
          ∗ (SparseCore.T d).loc main_v3 ↦{fullShare} m ((SparseCore.T d).loc main_v3)) := by
  unfold V3
  rw [held_S6, Function.update_self, Function.update_of_ne (show rArg0 ≠ r2 by decide), Function.update_of_ne (show rArg1 ≠ r2 by decide),
    Function.update_of_ne (show r0 ≠ r2 by decide), Function.update_of_ne (show r1 ≠ r2 by decide), Function.update_of_ne (show r3 ≠ r2 by decide),
    V2_list, V2_other m d (b := rArg0) (by decide) (by decide), V2_other m d (b := rArg1) (by decide) (by decide),
    V2_other m d (b := r3) (by decide) (by decide)]

/-- and at the end. -/
theorem held_V4 (d : Dev nD) :
    (held (T d) S6 ((opOut (F := F)).result (V3 m d)) : sProp 𝕄)
      = iprop((tblLoc d ↦{fullShare} m (tblLoc d)) ∗ ((SparseCore.T d).loc main_arg1 ↦{fullShare} m ((SparseCore.T d).loc main_arg1))
          ∗ ((SparseCore.T d).loc main_v0 ↦{fullShare} (opOut (F := F)).result (V3 m d) r0)
          ∗ (idsLoc d ↦{fullShare} (opOut (F := F)).result (V3 m d) r1) ∗ (resLoc d ↦{fullShare} (opOut (F := F)).result (V3 m d) r2)
          ∗ (SparseCore.T d).loc main_v3 ↦{fullShare} (resultOf m d : Buf (Elt F) ((SparseCore.T d).loc main_v3))) := by
  have e : (opOut (F := F)).result (V3 m d) r3 = (resultOf m d : Buf (Elt F) ((SparseCore.T d).loc main_v3)) := by
    refine (StableHlo.reshape_result main_v2 main_v3 _ _ _ _ _).trans ?_
    rw [show V3 m d r2 = rowsOf m d from Function.update_self _ _ _]; rfl
  rw [held_S6, e, (opOut (F := F)).result_of_not_mem (V3 m d) (b := rArg0) (show rArg0 ∉ ({r3} : Finset (DevRef τ sig)) by decide),
    (opOut (F := F)).result_of_not_mem (V3 m d) (b := rArg1) (show rArg1 ∉ ({r3} : Finset (DevRef τ sig)) by decide),
    show V3 m d rArg0 = m (tblLoc d) from (Function.update_of_ne (show rArg0 ≠ r2 by decide) _ _).trans (V2_other m d (b := rArg0) (by decide) (by decide)),
    show V3 m d rArg1 = m ((SparseCore.T d).loc main_arg1) from
      (Function.update_of_ne (show rArg1 ≠ r2 by decide) _ _).trans (V2_other m d (b := rArg1) (by decide) (by decide))]

/-- What the host leaves: the arguments, and the result. -/
abbrev FIN (d : Dev nD) : sProp 𝕄 :=
  iprop((tblLoc d ↦{fullShare} m (tblLoc d)) ∗ ((SparseCore.T d).loc main_arg1 ↦{fullShare} m ((SparseCore.T d).loc main_arg1))
    ∗ (SparseCore.T d).loc main_v3 ↦{fullShare} (resultOf m d : Buf (Elt F) ((SparseCore.T d).loc main_v3)))

/-- The host's program: two reshapes of the list, the call, and the reshape of the rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S6) hFlat (V := V0 m d)) $$ [Hb Hheld]
  · isplitl [Hb] <;> iassumption
  iintro ⟨Hb, Hheld⟩
  rw [wp_ret]; imodintro
  iapply (wp_hlo_within 𝒱 (SparseCore.T d) none Set.univ (op := opRow) (S := S6) hRow (V := (opFlat (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ht, Ha, H0, Hi, Hr, H3⟩
  iapply ((K (F := F)).wp_run (D (F := F)) 𝒱 (EH := EH) (P := P m) κ d 0) $$ [Hst Ht Ha H0 Hi Hr H3 Hb Hts]
  isplitr; · iexact Hctx
  isplitl [Hst]; · iexact Hst
  isplitl [Ht Hi Hr]
  · rw [st0_eq]
    unfold arrays
    isplitl [Ht]; · iexact Ht
    isplitl [Hi]; · iexact Hi
    iexact Hr
  iintro ⟨Hst, Hdn⟩
  ihave Hdn' := (Entails.of_eq (dn0_eq m d)) $$ Hdn
  unfold arrays
  icases Hdn' with ⟨Ht, Hi, Hr⟩
  iapply (wp_hlo_within 𝒱 (SparseCore.T d) none Set.univ (op := opOut) (S := S6) hOut (V := V3 m d)) $$ [Hb Ht Ha H0 Hi Hr H3]
  · isplitl [Hb]; · iexact Hb
    rw [held_V3]
    isplitl [Ht]; · iexact Ht
    isplitl [Ha]; · iexact Ha
    isplitl [H0]; · iexact H0
    isplitl [Hi]; · iexact Hi
    isplitl [Hr]; · iexact Hr
    iexact H3
  iintro ⟨Hb, Hheld⟩
  ihave Hh := (Entails.of_eq (held_V4 (F := F) m d)) $$ Hheld
  icases Hh with ⟨Ht, Ha, -, -, -, H3⟩
  rw [wp_ret]; imodintro; imodintro
  isplitl [Hst]; · iexact Hst
  isplitr [Hb Hts]
  · isplitl [Ht]; · iexact Ht
    isplitl [Ha]; · iexact Ha
    iexact H3
  isplitl [Hb] <;> iassumption

/-- What is read of a final state. -/
def fq (d : Dev nD) (s' : Phys nD τ sig (Elt F)) : Prop :=
  s'.mem.mem (tblLoc d) = m (tblLoc d) ∧ s'.mem.mem ((SparseCore.T d).loc main_arg1) = m ((SparseCore.T d).loc main_arg1)
    ∧ s'.mem.mem ((SparseCore.T d).loc main_v3) = (resultOf m d : Buf (Elt F) ((SparseCore.T d).loc main_v3))

theorem hfin (d : Dev nD) (s' : Phys nD τ sig (Elt F)) : iprop(FIN m d ∗ SI s') ⊢ (⌜fq m d s'⌝ : sProp 𝕄) := by
  iintro ⟨⟨Ht, Ha, H3⟩, HSI⟩
  ihave H := (persistent_entails_right (SI_pointsTo_agree (st := s') (ℓ := tblLoc d) (I := Finset.univ) (q := fullShare) (f := m (tblLoc d)))) $$ [HSI Ht]
  · isplitl [HSI] <;> iassumption
  icases H with ⟨%h1, HSI, -⟩
  ihave H := (persistent_entails_right (SI_pointsTo_agree (st := s') (ℓ := (SparseCore.T d).loc main_arg1) (I := Finset.univ) (q := fullShare)
    (f := m ((SparseCore.T d).loc main_arg1)))) $$ [HSI Ha]
  · isplitl [HSI] <;> iassumption
  icases H with ⟨%h2, HSI, -⟩
  ihave H := (SI_pointsTo_agree (st := s') (ℓ := (SparseCore.T d).loc main_v3) (I := Finset.univ) (q := fullShare)
    (f := (resultOf m d : Buf (Elt F) ((SparseCore.T d).loc main_v3)))) $$ [HSI H3]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (tblLoc c) = m (tblLoc c) ∧ r.2.mem ((SparseCore.T c).loc main_arg1) = m ((SparseCore.T c).loc main_arg1)
    ∧ r.2.mem ((SparseCore.T c).loc main_v3) = (resultOf m c : Buf (Elt F) ((SparseCore.T c).loc main_v3))) ∧ r.2.sem = fun _ => 0

/-- Every run of the program on a list in range terminates with the arguments unchanged, the gathered rows in the result,
    and every semaphore at zero. -/
theorem run_main [∀ e, Nonempty (Elt F e)] (hids : ∀ d, InRange (listOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hids)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Rows

end
-- ==== Proof.GatherValue.lean ====
/- The row gather's value: what a run leaves in the result, read at one entry, is the entry of the table's row that the
   index array names there; the reference's gather reads the same entry. Over any float values. -/
module

public import proofs.«01_k».proof.Proof.GatherLaunch
public import proofs.«01_k».proof.Proof.Gen.Reference.Run
public import proofs.«01_k».proof.Proof.Gen.ReferenceIdeal.Run
public import proofs.«01_k».proof.Proof.Gen.Pre_in_range

@[expose] public section

set_option maxRecDepth 16384

noncomputable section

namespace Cert.KernelIdeal.Rows

open Cert.KernelIdeal Cert.KernelIdeal.Gen
open Idealize.ShloMosaic Idealize.ShloMosaic.ValueIdx

variable {F : FTy → Type} [FloatOps F]

/-! ## The index array in range -/

theorem andi_ofBool (a b : Bool) : IntOp.andi (BitVec.ofBool a) (BitVec.ofBool b) = BitVec.ofBool (a && b) := by
  cases a <;> cases b <;> rfl

theorem ofBool_eq_one (a : Bool) : BitVec.ofBool a = 1#1 ↔ a = true := by
  cases a <;> decide

/-- A word that the two comparisons admit is one of 0, …, 270335. -/
theorem word_lt (v : BitVec 32) (e : IntOp.andi (IntOp.cmpi .sge v 0#32) (IntOp.cmpi .slt v 270336#32) = 1#1) :
    v.toNat < 270336 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The named precondition says that every entry of the index array is one of 0, …, 270335. -/
theorem entry_lt (x : S270336x128.Idx → Elt F .f32) (idx : S4x3x16384.Idx → BitVec 32)
    (h : Cert.Pre_in_range.fn (F := F) x idx = fun _ => 1#1) (j : S4x3x16384.Idx) : (idx j).toNat < 270336 := by
  apply word_lt
  have e := congrFun h j
  simpa only [Cert.Pre_in_range.fn, andi, cmpi, broadcastInDim, constantI] using e

/-- The list the kernel reads is the index array in row-major order. -/
theorem list_entry (idx : S4x3x16384.Idx → BitVec 32) (a : Fin 4) (b : Fin 3) (c : Fin 16384) (t : Fin 196608)
    (ht : t.val = (a.val * 3 + b.val) * 16384 + c.val) :
    shapeCast S1x196608 (shapeCast S196608 idx shapeCasts_S4x3x16384_S196608) shapeCasts_S196608_S1x196608 (ix2 0 t) = idx (ix3 a b c) := by
  rw [shapeCast_apply _ _ (ix2 0 t) (fun i => match i with | ⟨0, _⟩ => t : S196608.Idx)
    (by
      rw [Shape.rowMajor_val_one, Shape.rowMajor_val_two]
      show t.val = 0 * _ + t.val
      omega)]
  exact shapeCast_apply _ _ _ (ix3 a b c) (by
    rw [Shape.rowMajor_val_three, Shape.rowMajor_val_one]
    show (a.val * _ + b.val) * _ + c.val = t.val
    exact ht.symm)

theorem list_inRange (idx : S4x3x16384.Idx → BitVec 32) (h : ∀ j, (idx j).toNat < 270336) :
    InRange (shapeCast S1x196608 (shapeCast S196608 idx shapeCasts_S4x3x16384_S196608) shapeCasts_S196608_S1x196608) :=
  fun j => h _

/-! ## The two results at an entry -/

/-- Entry `(a, b, c, l)` of the rows gathered, at the result's shape. -/
theorem rows_entry (x : S270336x128.Idx → Elt F .f32) (idx : S4x3x16384.Idx → BitVec 32) (h : ∀ j, (idx j).toNat < 270336)
    (a : Fin 4) (b : Fin 3) (c : Fin 16384) (l : Fin 128) :
    shapeCast S4x3x16384x128 (gathered x (shapeCast S1x196608 (shapeCast S196608 idx shapeCasts_S4x3x16384_S196608) shapeCasts_S196608_S1x196608))
      shapeCasts_S196608x128_S4x3x16384x128 (ix4 a b c l) = x (ix2 ⟨(idx (ix3 a b c)).toNat, h _⟩ l) := by
  have hlt : (a.val * 3 + b.val) * 16384 + c.val < 196608 := by omega
  rw [shapeCast_apply _ _ (ix4 a b c l) (ix2 ⟨(a.val * 3 + b.val) * 16384 + c.val, hlt⟩ l) (by
    rw [Shape.rowMajor_val_two, Shape.rowMajor_val_four]; rfl)]
  unfold gathered word
  have hm : ((a.val * 3 + b.val) * 16384 + c.val) % 196608 = (a.val * 3 + b.val) * 16384 + c.val := Nat.mod_eq_of_lt hlt
  have e := list_entry idx a b c ⟨((a.val * 3 + b.val) * 16384 + c.val) % 196608, Nat.mod_lt _ (by decide)⟩ hm
  refine congrArg x ?_
  funext i
  match i with
  | ⟨0, _⟩ =>
    apply Fin.ext
    exact (congrArg (fun w : BitVec 32 => w.toNat % 270336) e).trans (Nat.mod_eq_of_lt (h _))
  | ⟨1, _⟩ => rfl

/-- A gather that reads whole rows of a table: entry `(a, b, c, l)` is entry `l` of the row that the index array names at
    `(a, b, c)`, read signed and clamped into the table. -/
theorem gather_rows {α : Type} (x : S270336x128.Idx → α) (idx : IVec ⟨4, ![4, 3, 16384, 1]⟩ 32)
    (wf : GatherDims.WF ⟨2, ![270336, 128]⟩ ⟨4, ![4, 3, 16384, 1]⟩ ⟨4, ![4, 3, 16384, 128]⟩ [3] [0] [] [0] [] 3 ![1, 128])
    (a : Fin 4) (b : Fin 3) (c : Fin 16384) (l : Fin 128) :
    Host.gather (⟨[3], [0], [], [], [0], 3, ![1, 128], wf⟩ : GatherDims ⟨2, ![270336, 128]⟩ ⟨4, ![4, 3, 16384, 1]⟩ ⟨4, ![4, 3, 16384, 128]⟩) x idx (ix4 a b c l)
      = x (ix2 ⟨min (idx (ix4 a b c 0)).toInt.toNat 270335, by omega⟩ l) := by
  unfold Host.gather
  refine congrArg x ?_
  funext i
  match i with
  | ⟨0, _⟩ =>
    apply Fin.ext
    simp only [GatherDims.operandIdx]
    rw [GatherDims.batchCoord_eq_zero _ _ _ (by simp), GatherDims.offCoord_eq_zero _ _ _ (by rw [GatherDims.mem_sKept]; simp)]
    unfold GatherDims.start
    rw [dif_pos (by simp)]
    refine congrArg (fun k : (⟨4, ![4, 3, 16384, 1]⟩ : Shape).Idx => min (idx k).toInt.toNat 270335) ?_
    funext k
    match k with
    | ⟨0, _⟩ => rfl
    | ⟨1, _⟩ => rfl
    | ⟨2, _⟩ => rfl
    | ⟨3, _⟩ => exact Subsingleton.elim (α := Fin 1) _ _
  | ⟨1, _⟩ =>
    apply Fin.ext
    simp only [GatherDims.operandIdx]
    rw [GatherDims.batchCoord_eq_zero _ _ _ (by simp)]
    unfold GatherDims.start
    rw [dif_neg (by simp)]
    simp only [Nat.zero_add]
    rfl

/-- A word below 270336 is not negative, so adding the table's height to the negative ones leaves it. -/
theorem wrap_word (v : BitVec 32) (h : v.toNat < 270336) :
    (if (IntOp.cmpi .slt v 0#32) = 1#1 then IntOp.addi v 270336#32 else v) = v := by
  rw [if_neg]
  simp only [IntOp.cmpi, ofBool_eq_one, BitVec.slt_eq_decide, decide_eq_true_eq, BitVec.toInt_eq_toNat_cond, BitVec.toNat_ofNat,
    Nat.reducePow, Nat.reduceMod]
  omega

theorem clamp_word (v : BitVec 32) (h : v.toNat < 270336) : min v.toInt.toNat 270335 = v.toNat := by
  rw [BitVec.toInt_eq_toNat_cond]
  omega

end Cert.KernelIdeal.Rows

namespace Cert.Reference.Value

open Cert.Reference Cert.Reference.Gen
open Idealize.ShloMosaic Idealize.ShloMosaic.ValueIdx

variable {F : FTy → Type} [FloatOps F]

/-- The reference's result, as its run leaves it. -/
def taken (x : S270336x128.Idx → Elt F .f32) (idx : S4x3x16384.Idx → BitVec 32) : S4x3x16384x128.Idx → Elt F .f32 :=
  Host.gather gather_S270336x128_S4x3x16384x1_S4x3x16384x128_3_0_n_n_0_3_1128 x
    (broadcastInDim S4x3x16384x1 ![0, 1, 2] bcast_S4x3x16384_S4x3x16384x1_0_1_2
      (select (cmpi .slt idx (broadcastInDim S4x3x16384 ![] bcast_S_S4x3x16384 (constantI S_ 32 0#32)))
        (addi idx (broadcastInDim S4x3x16384 ![] bcast_S_S4x3x16384 (constantI S_ 32 270336#32))) idx))

/-- Entry `(a, b, c, l)` of the reference's result. -/
theorem taken_entry (x : S270336x128.Idx → Elt F .f32) (idx : S4x3x16384.Idx → BitVec 32) (h : ∀ j, (idx j).toNat < 270336)
    (a : Fin 4) (b : Fin 3) (c : Fin 16384) (l : Fin 128) :
    taken x idx (ix4 a b c l) = x (ix2 ⟨(idx (ix3 a b c)).toNat, h _⟩ l) := by
  refine (Cert.KernelIdeal.Rows.gather_rows x _ _ a b c l).trans ?_
  have e : (broadcastInDim S4x3x16384x1 ![0, 1, 2] bcast_S4x3x16384_S4x3x16384x1_0_1_2
      (select (cmpi .slt idx (broadcastInDim S4x3x16384 ![] bcast_S_S4x3x16384 (constantI S_ 32 0#32)))
        (addi idx (broadcastInDim S4x3x16384 ![] bcast_S_S4x3x16384 (constantI S_ 32 270336#32))) idx)) (ix4 a b c 0)
      = idx (ix3 a b c) := by
    refine Eq.trans ?_ (Cert.KernelIdeal.Rows.wrap_word (idx (ix3 a b c)) (h _))
    have e3 : (fun i : Fin 3 => if h1 : S4x3x16384.size i = 1 then (⟨0, by omega⟩ : Fin (S4x3x16384.size i))
        else ⟨((ix4 a b c (0 : Fin 1) : S4x3x16384x1.Idx) ((![0, 1, 2] : Fin 3 → Fin 4) i)).val, by
          match i with | ⟨0, _⟩ => exact a.isLt | ⟨1, _⟩ => exact b.isLt | ⟨2, _⟩ => exact c.isLt⟩) = ix3 a b c := by
      funext i
      match i with | ⟨0, _⟩ => rfl | ⟨1, _⟩ => rfl | ⟨2, _⟩ => rfl
    simp only [broadcastInDim, select, cmpi, addi, constantI]
    erw [e3]
    rfl
  refine congrArg x ?_
  funext i
  match i with
  | ⟨0, _⟩ => exact Fin.ext ((congrArg (fun w : BitVec 32 => min w.toInt.toNat 270335) e).trans (Cert.KernelIdeal.Rows.clamp_word _ (h _)))
  | ⟨1, _⟩ => rfl

/-- On indices in range the kernel's result is the reference's. -/
theorem rows_eq_taken (x : S270336x128.Idx → Elt F .f32) (idx : S4x3x16384.Idx → BitVec 32) (h : ∀ j, (idx j).toNat < 270336) :
    shapeCast Cert.KernelIdeal.S4x3x16384x128
      (Cert.KernelIdeal.Rows.gathered x (shapeCast Cert.KernelIdeal.S1x196608 (shapeCast Cert.KernelIdeal.S196608 idx Cert.KernelIdeal.Gen.shapeCasts_S4x3x16384_S196608) Cert.KernelIdeal.Gen.shapeCasts_S196608_S1x196608))
      Cert.KernelIdeal.Gen.shapeCasts_S196608x128_S4x3x16384x128 = taken x idx := by
  funext j
  have hj : ix4 (j 0) (j 1) (j 2) (j 3) = j := by
    funext i
    match i with | ⟨0, _⟩ => rfl | ⟨1, _⟩ => rfl | ⟨2, _⟩ => rfl | ⟨3, _⟩ => rfl
  rw [← hj]
  exact (Cert.KernelIdeal.Rows.rows_entry x idx h _ _ _ _).trans (taken_entry x idx h _ _ _ _).symm

end Cert.Reference.Value

end
-- ==== Proof.FfnValue.lean ====
/- The feed-forward sub-layer: the array the kernel leaves is the reference's, at exact reals. -/
module

public import proofs.«01_k».proof.Proof.Gen.FfnIdeal.Value
public import proofs.«01_k».proof.Proof.Gen.FfnReferenceIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.FfnReferenceIdeal.Value

open Cert.FfnReferenceIdeal Cert.FfnReferenceIdeal.Gen

/-- A matrix with each row divided by its root mean square, each column multiplied by its gain. -/
def normed (y : FVec Ideal S16384x2048 .f32) (g : FVec Ideal S2048 .f32) : FVec Ideal S16384x2048 .f32 :=
  mulf (mulf y (broadcastInDim S16384x2048 ![0, 1] bcast_S16384x1_S16384x2048_0_1 (Host.rsqrt (addf (Host.divf
      (broadcastInDim S16384x1 ![0] bcast_S16384_S16384x1_0 (Host.reduceAdd (mulf y y) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The positive part of the up projection. -/
def relu (x : FVec Ideal S16384x2048 .f32) (g : FVec Ideal S2048 .f32) (wu : FVec Ideal S2048x8192 .f32) : FVec Ideal S16384x8192 .f32 :=
  maximumf (Host.dotGeneral dot_S16384x2048_S2048x8192_S16384x8192_1_0_0_1_n_n none (normed x g) wu)
    (broadcastInDim S16384x8192 ![] bcast_S_S16384x8192 (constant S_ .f32 0x00000000#32))

/-- The down projection of the squared positive part. -/
def down (x : FVec Ideal S16384x2048 .f32) (g : FVec Ideal S2048 .f32) (wu : FVec Ideal S2048x8192 .f32) (wd : FVec Ideal S8192x2048 .f32) :
    FVec Ideal S16384x2048 .f32 :=
  Host.dotGeneral dot_S16384x8192_S8192x2048_S16384x2048_1_0_0_1_n_n none (mulf (relu x g wu) (relu x g wu)) wd

/-- The reference's result from its arguments. -/
def ffnOf (x : FVec Ideal S16384x2048 .f32) (g : FVec Ideal S2048 .f32) (wu : FVec Ideal S2048x8192 .f32) (wd : FVec Ideal S8192x2048 .f32)
    (g' : FVec Ideal S2048 .f32) : FVec Ideal S16384x2048 .f32 :=
  addf x (normed (down x g wu wd) g')

variable (m : (ℓ : Loc nD τ sig) → Buf (Elt Ideal) ℓ)

/-- The term the reference's run leaves is `ffnOf` of the arguments. -/
theorem result_eq (c : Dev nD) : res_main_v31 m c = ffnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v31; rfl

end Cert.FfnReferenceIdeal.Value

namespace Cert.FfnIdeal.Value

open Cert.FfnIdeal Cert.FfnIdeal.Gen
open Idealize.ShloMosaic.Pipeline (Dat)
open Cert.FfnReferenceIdeal.Value (normed relu down ffnOf)

variable (m : (ℓ : Loc nD τ sig) → Buf (Elt Ideal) ℓ)

/-- At grid point `t` the rows' windows stand at block `t / 8`, the up and down projections' at block `t % 8` of the hidden axis. -/
theorem idx_val : ∀ t : Fin cfg0.N, win0_0.index t = ![t.val / 8, 0] ∧ win0_1.index t = ![0, 0] ∧ win0_2.index t = ![0, t.val % 8]
    ∧ win0_3.index t = ![t.val % 8, 0] ∧ win0_4.index t = ![0, 0] ∧ win0_5.index t = ![t.val / 8, 0] :=
  (by decide +kernel : ∀ t : Fin grid0.N, _)

/-- Row `r` of the block of rows grid point `n` works on. -/
def row (n : ℕ) (h : n < cfg0.N) (r : Fin 512) : Fin 16384 :=
  ⟨n / 8 * 512 + r.val, by have := lt_of_lt_of_eq h (show cfg0.N = 256 from N_0); omega⟩

/-- The normalised rows a first point of a run computes. -/
theorem pay1_at (c : Dev nD) (t : Fin cfg0.N) (r : Fin 512) (k : Fin 2048) :
    k0_pay1 (F := Ideal) (iblk m c 0 t) (iblk m c 1 t) (ix2 r k)
      = normed (m ((c.tc : Thread nD τ).loc main_arg0)) (m ((c.tc : Thread nD τ).loc main_arg1)) (ix2 (row t.val t.isLt r) k) := by
  pointwise [k0_pay1, normed]
  blk_point [iblk, V, idx_val t, row]

/-- After every point the normalised rows' buffer holds its run's block of them. -/
theorem hn_at (c : Dev nD) (r : Fin 512) (k : Fin 2048) : ∀ (n : ℕ) (h : n < cfg0.N),
    ((outsAt0 m c n h).2.1 : FVec Ideal S512x2048 .bf16) (ix2 r k)
      = normed (m ((c.tc : Thread nD τ).loc main_arg0)) (m ((c.tc : Thread nD τ).loc main_arg1)) (ix2 (row n h r) k) := by
  intro n
  induction n with
  | zero =>
    intro h
    rw [outsAt0_A m c ⟨0, h⟩ rfl (by decide : ¬ 0 % 8 = 7)]
    frame_out
    exact pay1_at m c ⟨0, h⟩ r k
  | succ n ih =>
    intro h
    by_cases h0 : (n + 1) % 8 = 0
    · rw [outsAt0_A m c ⟨n + 1, h⟩ h0 (by show ¬ (n + 1) % 8 = 7; omega)]
      frame_out
      exact pay1_at m c ⟨n + 1, h⟩ r k
    · have hrow : row (n + 1) h r = row n (Nat.lt_of_succ_lt h) r := Fin.ext (by unfold row; show (n + 1) / 8 * 512 + _ = n / 8 * 512 + _; rw [show (n + 1) / 8 = n / 8 by omega])
      rw [hrow, ← ih (Nat.lt_of_succ_lt h)]
      by_cases h1 : (n + 1) % 8 = 7
      · rw [outsAt0_C m c ⟨n + 1, h⟩ h0 h1]; rfl
      · rw [outsAt0_B m c ⟨n + 1, h⟩ h0 h1]; rfl

/-- What point `t` adds to entry `i` of the down projection: its block of the hidden axis. -/
def part (c : Dev nD) (t : Fin cfg0.N) (i : S512x2048.Idx) : EReal :=
  ∑ j : Fin 1024, (relu (m ((c.tc : Thread nD τ).loc main_arg0)) (m ((c.tc : Thread nD τ).loc main_arg1)) (m ((c.tc : Thread nD τ).loc main_arg2)) (ix2 (row t.val t.isLt (i 0)) ⟨t.val % 8 * 1024 + j.val, by omega⟩)
      * relu (m ((c.tc : Thread nD τ).loc main_arg0)) (m ((c.tc : Thread nD τ).loc main_arg1)) (m ((c.tc : Thread nD τ).loc main_arg2)) (ix2 (row t.val t.isLt (i 0)) ⟨t.val % 8 * 1024 + j.val, by omega⟩))
    * ((m ((c.tc : Thread nD τ).loc main_arg3)) : FVec Ideal S8192x2048 .f32) (ix2 ⟨t.val % 8 * 1024 + j.val, by omega⟩ (i 1))

/-- A point's store into the down projection's buffer adds that part, the normalised rows being their block. -/
theorem pay3_at (c : Dev nD) (t : Fin cfg0.N) (hn : FVec Ideal S512x2048 .bf16) (acc : FVec Ideal S512x2048 .f32)
    (hh : ∀ (r : Fin 512) (k : Fin 2048), hn (ix2 r k) = normed (m ((c.tc : Thread nD τ).loc main_arg0)) (m ((c.tc : Thread nD τ).loc main_arg1)) (ix2 (row t.val t.isLt r) k)) (i : S512x2048.Idx) :
    k0_pay3 (F := Ideal) hn (iblk m c 2 t) acc (iblk m c 3 t) i = acc i + part m c t i := by
  unfold part
  idx_vars i
  pointwise [k0_pay3, relu]
  simp only [hh]
  blk_point [iblk, V, idx_val t, row]

/-- A later point of a run stores the next partial sum over what the point before left. -/
theorem acc_step (c : Dev nD) (t : Fin cfg0.N) (h0 : ¬t.val % 8 = 0) :
    ((outsAt0 m c t.val t.isLt).2.2 : FVec Ideal S512x2048 .f32)
      = k0_pay3 (F := Ideal) (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  by_cases h1 : t.val % 8 = 7
  · rw [outsAt0_C m c t h0 h1]
    generalize outsAt0 m c (t.val - 1) _ = p
    frame_out
    rw [read_unread_whole cc0_scratch0, read_unread_whole cc0_scratch1]
  · rw [outsAt0_B m c t h0 h1]
    generalize outsAt0 m c (t.val - 1) _ = p
    frame_out
    rw [read_unread_whole cc0_scratch0, read_unread_whole cc0_scratch1]

/-- At a run's last point the buffer holds the block of the down projection. -/
theorem acc_at (c : Dev nD) (t : Fin cfg0.N) (h7 : t.val % 8 = 7) (r : Fin 512) (d : Fin 2048) :
    ((outsAt0 m c t.val t.isLt).2.2 : FVec Ideal S512x2048 .f32) (ix2 r d)
      = down (m ((c.tc : Thread nD τ).loc main_arg0)) (m ((c.tc : Thread nD τ).loc main_arg1)) (m ((c.tc : Thread nD τ).loc main_arg2)) (m ((c.tc : Thread nD τ).loc main_arg3)) (ix2 (row t.val t.isLt r) d) := by
  have key := Pipeline.eq_sum_fin_of_reset_step_apply_of_flush (N := cfg0.N) (fun n h => ((outsAt0 m c n h).2.2 : S512x2048.Idx → EReal)) 8 (fun _ => 0) (part m c)
    (fun t h i => by
      show ((outsAt0 m c t.val t.isLt).2.2 : FVec Ideal S512x2048 .f32) i = _
      rw [outsAt0_A m c t h (by omega)]
      frame_out
      rw [pay3_at m c t _ _ (fun r k => pay1_at m c t r k)]
      exact congrArg (· + part m c t i) (by pointwise [k0_pay2]))
    (fun t h i => by
      show ((outsAt0 m c t.val t.isLt).2.2 : FVec Ideal S512x2048 .f32) i = _
      have hh : ∀ (r : Fin 512) (k : Fin 2048), ((outsAt0 m c (t.val - 1) (Nat.lt_of_le_of_lt (Nat.sub_le _ _) t.isLt)).2.1 : FVec Ideal S512x2048 .bf16) (ix2 r k)
          = normed (m ((c.tc : Thread nD τ).loc main_arg0)) (m ((c.tc : Thread nD τ).loc main_arg1)) (ix2 (row t.val t.isLt r) k) := fun r k => by
        rw [hn_at]
        congr 2
        exact Fin.ext (by unfold row; show (t.val - 1) / 8 * 512 + _ = t.val / 8 * 512 + _; rw [show (t.val - 1) / 8 = t.val / 8 by omega])
      exact (congrFun (acc_step m c t h) i).trans (pay3_at m c t _ _ hh i))
    t h7 (ix2 r d)
  refine key.trans ?_
  rw [zero_add]
  have hD : (down (m ((c.tc : Thread nD τ).loc main_arg0)) (m ((c.tc : Thread nD τ).loc main_arg1)) (m ((c.tc : Thread nD τ).loc main_arg2)) (m ((c.tc : Thread nD τ).loc main_arg3)) (ix2 (row t.val t.isLt r) d) : EReal)
      = ∑ l : Fin 8192, (relu (m ((c.tc : Thread nD τ).loc main_arg0)) (m ((c.tc : Thread nD τ).loc main_arg1)) (m ((c.tc : Thread nD τ).loc main_arg2)) (ix2 (row t.val t.isLt r) l) * relu (m ((c.tc : Thread nD τ).loc main_arg0)) (m ((c.tc : Thread nD τ).loc main_arg1)) (m ((c.tc : Thread nD τ).loc main_arg2)) (ix2 (row t.val t.isLt r) l))
        * ((m ((c.tc : Thread nD τ).loc main_arg3)) : FVec Ideal S8192x2048 .f32) (ix2 l d) := by
    pointwise [down]
  rw [hD]
  refine Fin.sum_mul_add_congr fun s k hl => ?_
  have e1 : (8 * (t.val / 8) + s.val) % 8 = s.val := by omega
  have e2 : (8 * (t.val / 8) + s.val) / 8 = t.val / 8 := by omega
  have hrow : ∀ h, row (8 * (t.val / 8) + s.val) h r = row t.val t.isLt r := fun h => Fin.ext (by unfold row; show _ / 8 * 512 + _ = _ ; rw [e2])
  show relu _ _ _ (ix2 (row _ _ r) ⟨_ % 8 * 1024 + _, _⟩) * relu _ _ _ (ix2 (row _ _ r) ⟨_ % 8 * 1024 + _, _⟩) * ((m ((c.tc : Thread nD τ).loc main_arg3)) : FVec Ideal S8192x2048 .f32) (ix2 ⟨_ % 8 * 1024 + _, _⟩ d) = _
  simp only [hrow, e1]

/-- What a run's last point stores at an entry of its block is the reference's result there. -/
theorem point (c : Dev nD) (t : Fin cfg0.N) (h7 : t.val % 8 = 7) (y : S512x2048.Idx) :
    k0_pay4 (F := Ideal) (iblk m c 0 t) (outsAt0 m c t.val t.isLt).2.2 (iblk m c 4 t) y
      = ffnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((View.whole main_v4).slice (win0_5.rect t)).emb y) := by
  have hy : ((View.whole main_v4).slice (win0_5.rect t)).emb y = ix2 (row t.val t.isLt (y 0)) (y 1) := by
    funext a
    refine Fin.ext ((Pipeline.Window.rect_emb_val win0_5 t y a).trans ?_)
    match a with
    | ⟨0, _⟩ => rw [show win0_5.index t ⟨0, _⟩ = t.val / 8 from congrFun (idx_val t).2.2.2.2.2 0]; rfl
    | ⟨1, _⟩ => rw [show win0_5.index t ⟨1, _⟩ = 0 from congrFun (idx_val t).2.2.2.2.2 1, Nat.zero_mul, Nat.zero_add]; rfl
  rw [hy]
  have hacc := acc_at m c t h7
  generalize ((outsAt0 m c t.val t.isLt).2.2 : FVec Ideal S512x2048 .f32) = acc at hacc ⊢
  idx_vars y
  pointwise [k0_pay4, ffnOf, normed]
  simp only [hacc]
  blk_point [iblk, V, idx_val t, row]

/-- At a run's last point the output's buffer is stored from what the down projection's buffer then holds. -/
theorem out_last (c : Dev nD) (t : Fin cfg0.N) (h0 : ¬t.val % 8 = 0) (h7 : t.val % 8 = 7) :
    ((outsAt0 m c t.val t.isLt).1 : FVec Ideal S512x2048 .f32) = k0_pay4 (F := Ideal) (iblk m c 0 t) (outsAt0 m c t.val t.isLt).2.2 (iblk m c 4 t) := by
  rw [acc_step m c t h0, outsAt0_C m c t h0 h7]
  generalize outsAt0 m c (t.val - 1) _ = p
  frame_out
  rw [read_unread_whole cc0_scratch0, read_unread_whole cc0_scratch1]

/-- The array the launch leaves is the reference's result. -/
theorem final (c : Dev nD) : (dats m 0 c).arrAt 5 cfg0.N = ffnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have h7 : t.val % 8 = 7 := (flush0_5 t).mp hf
  blk_simp
  rw [after0_5, out_last m c t (by omega) h7]
  exact point m c t h7 y

end Cert.FfnIdeal.Value

end
-- ==== Proof.MergeValue.lean ====
/- The merge of the two branches: the array the kernel leaves is the reference's, at exact reals. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeReferenceIdeal.Value

open Cert.MergeReferenceIdeal Cert.MergeReferenceIdeal.Gen

/-- The logistic function of a block of gate columns, as the reference computes it. -/
def gateOf (off : Fin 2 → ℕ) (h : S16384x11264.Slices off S16384x2048) (pr : FVec Ideal S16384x11264 .f32) : FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32))
      (Host.exp (Host.negf (extractStridedSlice S16384x2048 off pr h))))

/-- The gated sum of the two branches, before the output projection. -/
def gatedSum (hm ha : FVec Ideal S16384x1024 .f32) (pr : FVec Ideal S16384x11264 .f32) (wm wa : FVec Ideal S1024x2048 .f32) :
    FVec Ideal S16384x2048 .f32 :=
  addf (mulf (gateOf ![0, 0] slices_S16384x11264_S16384x2048_0_0 pr) (Host.dotGeneral dot_S16384x1024_S1024x2048_S16384x2048_1_0_0_1_n_n none hm wm))
    (mulf (gateOf ![0, 2048] slices_S16384x11264_S16384x2048_0_2048 pr) (Host.dotGeneral dot_S16384x1024_S1024x2048_S16384x2048_1_0_0_1_n_n none ha wa))

/-- The output projection of the gated sum. -/
def mixed (hm ha : FVec Ideal S16384x1024 .f32) (pr : FVec Ideal S16384x11264 .f32) (wm wa : FVec Ideal S1024x2048 .f32)
    (wo : FVec Ideal S2048x2048 .f32) : FVec Ideal S16384x2048 .f32 :=
  Host.dotGeneral dot_S16384x2048_S2048x2048_S16384x2048_1_0_0_1_n_n none (gatedSum hm ha pr wm wa) wo

/-- A matrix with each row divided by its root mean square, each column multiplied by its gain. -/
def normed (y : FVec Ideal S16384x2048 .f32) (g : FVec Ideal S2048 .f32) : FVec Ideal S16384x2048 .f32 :=
  mulf (mulf y (broadcastInDim S16384x2048 ![0, 1] bcast_S16384x1_S16384x2048_0_1 (Host.rsqrt (addf (Host.divf
      (broadcastInDim S16384x1 ![0] bcast_S16384_S16384x1_0 (Host.reduceAdd (mulf y y) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The reference's result from its arguments. -/
def mergeOf (hm ha : FVec Ideal S16384x1024 .f32) (pr : FVec Ideal S16384x11264 .f32) (x : FVec Ideal S1x16384x2048 .f32)
    (wm wa : FVec Ideal S1024x2048 .f32) (wo : FVec Ideal S2048x2048 .f32) (g : FVec Ideal S2048 .f32) : FVec Ideal S16384x2048 .f32 :=
  addf (shapeCast _ x shapeCasts_S1x16384x2048_S16384x2048) (normed (mixed hm ha pr wm wa wo) g)

variable (m : (ℓ : Loc nD τ sig) → Buf (Elt Ideal) ℓ)

/-- The term the reference's run leaves is `mergeOf` of the arguments. -/
theorem result_eq (c : Dev nD) : res_main_v34 m c = mergeOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold res_main_v34; rfl

end Cert.MergeReferenceIdeal.Value

namespace Cert.MergeIdeal.Value

open Cert.MergeIdeal Cert.MergeIdeal.Gen
open Idealize.ShloMosaic.Pipeline (Dat)

open Cert.MergeReferenceIdeal.Value (gateOf gatedSum mixed normed mergeOf)

variable (m : (ℓ : Loc nD τ sig) → Buf (Elt Ideal) ℓ)

/-- At grid point `t` the row windows stand at block `t`, the two gate windows at column blocks 0 and 1, the others at block 0. -/
theorem idx_val : ∀ t : Fin cfg0.N, win0_0.index t = ![t.val, 0] ∧ win0_1.index t = ![t.val, 0] ∧ win0_2.index t = ![t.val, 0] ∧ win0_3.index t = ![t.val, 1]
    ∧ win0_4.index t = ![0, t.val, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- Row `r` of block `t` of the matrix's rows. -/
def row (t : Fin cfg0.N) (r : Fin 256) : Fin 16384 :=
  ⟨t.val * 256 + r.val, by have := lt_of_lt_of_eq t.isLt (show cfg0.N = 64 from N_0); omega⟩

/-- The first gate's staging buffer holds columns 0 to 2047 of its block of rows. -/
theorem X2_at (c : Dev nD) (t : Fin cfg0.N) (r : Fin 256) (d : Fin 2048) :
    (X0_2 m c t : FVec Ideal S256x2048 .bf16) (ix2 r d) = (m ((c.tc : Thread nD τ).loc main_arg2) : FVec Ideal S16384x11264 .f32) (ix2 (row t r) ⟨d.val, by omega⟩) := by
  unfold X0_2 Pipeline.Window.fill; rw [dif_pos (moved0_2 t _)]
  blk_point [iblk, V, idx_val t, row]

/-- The second gate's staging buffer holds columns 2048 to 4095 of its block of rows. -/
theorem X3_at (c : Dev nD) (t : Fin cfg0.N) (r : Fin 256) (d : Fin 2048) :
    (X0_3 m c t : FVec Ideal S256x2048 .bf16) (ix2 r d) = (m ((c.tc : Thread nD τ).loc main_arg2) : FVec Ideal S16384x11264 .f32) (ix2 (row t r) ⟨2048 + d.val, by omega⟩) := by
  unfold X0_3 Pipeline.Window.fill; rw [dif_pos (moved0_3 t _)]
  blk_point [iblk, V, idx_val t, row]

/-- A block's gated sum is the reference's at the block's rows. -/
theorem gated_at (c : Dev nD) (t : Fin cfg0.N) (r : Fin 256) (d : Fin 2048) :
    k0_pay2 (F := Ideal) (iblk m c 0 t) (iblk m c 5 t) (iblk m c 1 t) (iblk m c 6 t) (X0_2 m c t) (X0_3 m c t) (ix2 r d)
      = gatedSum (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5)) (ix2 (row t r) d) := by
  pointwise [k0_pay2, gatedSum, gateOf]
  simp only [X2_at, X3_at, zero_sub]
  blk_point [iblk, V, idx_val t, row]

/-- What the body stores at an entry of its block is the reference's result there. -/
theorem point (c : Dev nD) (t : Fin cfg0.N) (y : S256x2048.Idx) :
    k0_pay1 (F := Ideal) (k0_pay2 (iblk m c 0 t) (iblk m c 5 t) (iblk m c 1 t) (iblk m c 6 t) (X0_2 m c t) (X0_3 m c t))
      (k0_pay3 (iblk m c 7 t)) (constant S256x2048 FTy.f32 0#32) (iblk m c 4 t) (iblk m c 8 t) y
      = mergeOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
        (((View.whole main_v7).slice (win0_9.rect t)).emb y) := by
  have hy : ((View.whole main_v7).slice (win0_9.rect t)).emb y = ix2 (row t (y 0)) (y 1) := by
    funext a
    refine Fin.ext ((Pipeline.Window.rect_emb_val win0_9 t y a).trans ?_)
    match a with
    | ⟨0, _⟩ => rw [show win0_9.index t ⟨0, _⟩ = t.val from congrFun (idx_val t).2.2.2.2.2.2.2.2.2 0]; rfl
    | ⟨1, _⟩ => rw [show win0_9.index t ⟨1, _⟩ = 0 from congrFun (idx_val t).2.2.2.2.2.2.2.2.2 1, Nat.zero_mul, Nat.zero_add]; rfl
  rw [hy]
  idx_vars y
  pointwise [k0_pay1, k0_pay3, mergeOf, normed, mixed]
  simp only [gated_at]
  blk_point [iblk, V, idx_val t, row]

/-- The array the launch leaves is the reference's result. -/
theorem final (c : Dev nD) : (dats m 0 c).arrAt 9 cfg0.N = mergeOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  refine (dats m 0 c).arrAt_eq_of_covers 9 _ (by decide +kernel) fun t _ y => ?_
  blk_simp
  rw [after0_9]; unfold outsAt0; unfold Gen.out0_A_9
  frame_out
  exact point m c t y

end Cert.MergeIdeal.Value

end
-- ==== Proof.ProjLaunch.lean ====
module

public import proofs.«01_k».proof.Proof.Gen.ProjIdeal.Frame
public import proofs.«01_k».proof.Proof.Gen.ProjIdeal.Skeleton
public import Idealize.ShloMosaic.Lib.Pipeline.TableIdle
public import Idealize.ShloMosaic.Lib.VecWindow
public import Idealize.ShloMosaic.Lib.WholeRead
public import Idealize.ShloMosaic.Lib.Claim

/-! The run of `_proj`, over any float values.

    The grid is 32 row blocks by 4 column blocks. At a row block's first point the body normalises the 512 rows into a
    scratch array and multiplies them by the gate columns; at all four points it multiplies the scratch by the point's
    2816 columns. So within a row block three things stand still: the normalised rows, the gate block, and the input rows
    they come from. Everything the body leaves is therefore named here from the row block's first point (`start`), and no
    recursion over the points is needed. The gate block is stored at the first point of a row block and written back at
    the last, where the body does not touch it: that it still is what was stored is `gate_kept`. -/

@[expose] public section

set_option maxRecDepth 16384

noncomputable section

namespace Cert.ProjIdeal.Rows

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any memrefs -/

/-- A load of a whole memref held at the contents that read `X` is `X`. -/
theorem load_whole {s : Shape} {e : EltTy} {a : Memref sig .tc .vmem s e} (h : a.IsWhole) (X : Vec F s e)
    {off : Fin s.rank → ℕ} (inb : ∀ i, off i + s.size i ≤ s.size i) :
    View.readAt (Elt F) a.view (Rect.unit off s.size inb).toLoadRect (h.unread X) = X :=
  (View.readAt_full _ _ inb).trans (h.read_unread X)

set_option maxHeartbeats 1600000 in
/-- The body at a row block's first point: the normalised rows go to the scratch, their products with the gate columns
    to the gate window, and their products with the point's columns to the other output. -/
theorem first (c : Dev nD) (i : grid0.Coords) (a2 : Memref sig .tc .vmem S1x512x2048 .f32) (h2 : a2.IsWhole)
    (a3 : Memref sig .tc .vmem S1x2048 .f32) (h3 : a3.IsWhole) (a4 : Memref sig .tc .vmem S2048x2816 .bf16) (h4 : a4.IsWhole)
    (a5 : Memref sig .tc .vmem S2048x128 .bf16) (h5 : a5.IsWhole) (a6 : Memref sig .tc .vmem S512x2816 .bf16) (h6 : a6.IsWhole)
    (a7 : Memref sig .tc .vmem S512x128 .f32) (h7 : a7.IsWhole) (a8 : Memref sig .tc .vmem S512x2048 .bf16) (h8 : a8.IsWhole)
    (hc : k0_cond1 i = 1#1) (x : Vec F S1x512x2048 .f32) (g : Vec F S1x2048 .f32) (w : Vec F S2048x2816 .bf16)
    (wg : Vec F S2048x128 .bf16) (E : Set ℕ) (K : PUnit → sProp 𝕄) :
    iprop(owns (c : Thread nD τ) a2 fullShare x ∗ owns (c : Thread nD τ) a3 fullShare g ∗ owns (c : Thread nD τ) a4 fullShare w
        ∗ owns (c : Thread nD τ) a5 fullShare wg ∗ (∃ d, owns (c : Thread nD τ) a6 fullShare d)
        ∗ (∃ d, owns (c : Thread nD τ) a7 fullShare d) ∗ (∃ d, owns (c : Thread nD τ) a8 fullShare d)
        ∗ (iprop(owns (c : Thread nD τ) a2 fullShare x ∗ owns (c : Thread nD τ) a3 fullShare g ∗ owns (c : Thread nD τ) a4 fullShare w
            ∗ owns (c : Thread nD τ) a5 fullShare wg ∗ owns (c : Thread nD τ) a6 fullShare (k0_pay4 (k0_pay2 x g) w)
            ∗ owns (c : Thread nD τ) a7 fullShare (k0_pay3 x g wg) ∗ owns (c : Thread nD τ) a8 fullShare (k0_pay2 x g)) -∗ K ⟨⟩))
      ⊢ wp frame (wpE (defs₀ (F := F)) Variants.none c none) E (cc0_proj i a2 h2 a3 h3 a4 h4 a5 h5 a6 h6 a7 h7 a8 h8) K := by
  simp only [cc0_proj_eq_skeleton]; unfold cc0_proj_skel
  unfold owns
  iintro ⟨⟨%f2, %e2, H2⟩, ⟨%f3, %e3, H3⟩, ⟨%f4, %e4, H4⟩, ⟨%f5, %e5, H5⟩, ⟨%d6, %f6, %e6, H6⟩, ⟨%d7, %f7, %e7, H7⟩, ⟨%d8, %f8, %e8, H8⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    refine (View.read_writes_full _ _ _ _ _).trans (congrArg₂ k0_pay4 ?_ (load_whole h4 w _))
    refine (View.readCov_full _ _ _ _ _).trans (congrArg₂ k0_pay2 (load_whole h2 x _) (load_whole h3 g _))
  isplitl [H7]
  · iexists _; isplitr
    swap; · iexact H7
    ipureintro
    refine (View.read_writes_full _ _ _ _ _).trans ?_
    rw [load_whole h2 x, load_whole h3 g, load_whole h5 wg]
  iexists _; isplitr
  swap; · iexact H8
  ipureintro
  exact (View.read_writes_full _ _ _ _ _).trans (congrArg₂ k0_pay2 (load_whole h2 x _) (load_whole h3 g _))

set_option maxHeartbeats 1600000 in
/-- The body at a row block's other points: only the scratch's products with the point's columns are written. -/
theorem later (c : Dev nD) (i : grid0.Coords) (a2 : Memref sig .tc .vmem S1x512x2048 .f32) (h2 : a2.IsWhole)
    (a3 : Memref sig .tc .vmem S1x2048 .f32) (h3 : a3.IsWhole) (a4 : Memref sig .tc .vmem S2048x2816 .bf16) (h4 : a4.IsWhole)
    (a5 : Memref sig .tc .vmem S2048x128 .bf16) (h5 : a5.IsWhole) (a6 : Memref sig .tc .vmem S512x2816 .bf16) (h6 : a6.IsWhole)
    (a7 : Memref sig .tc .vmem S512x128 .f32) (h7 : a7.IsWhole) (a8 : Memref sig .tc .vmem S512x2048 .bf16) (h8 : a8.IsWhole)
    (hc : ¬k0_cond1 i = 1#1) (w : Vec F S2048x2816 .bf16) (xn : Vec F S512x2048 .bf16) (E : Set ℕ) (K : PUnit → sProp 𝕄) :
    iprop(owns (c : Thread nD τ) a4 fullShare w ∗ (∃ d, owns (c : Thread nD τ) a6 fullShare d)
        ∗ owns (c : Thread nD τ) a8 fullShare xn
        ∗ (iprop(owns (c : Thread nD τ) a4 fullShare w ∗ owns (c : Thread nD τ) a6 fullShare (k0_pay4 xn w)
            ∗ owns (c : Thread nD τ) a8 fullShare xn) -∗ K ⟨⟩))
      ⊢ wp frame (wpE (defs₀ (F := F)) Variants.none c none) E (cc0_proj i a2 h2 a3 h3 a4 h4 a5 h5 a6 h6 a7 h7 a8 h8) K := by
  simp only [cc0_proj_eq_skeleton]; unfold cc0_proj_skel
  unfold owns
  iintro ⟨⟨%f4, %e4, H4⟩, ⟨%d6, %f6, %e6, H6⟩, ⟨%f8, %e8, H8⟩, Hk⟩
  obtain rfl := h4.eq_unread e4; obtain rfl := h8.eq_unread e8
  sl_exec (disch := first | sl_exact hc)
  sl_step
  iapply Hk
  isplitl [H4]
  · iexists _; isplitr; · ipureintro; exact h4.read_unread _
    iexact H4
  isplitl [H6]
  · iexists _; isplitr
    swap; · iexact H6
    ipureintro
    exact (View.read_writes_full _ _ _ _ _).trans (congrArg₂ k0_pay4 (load_whole h8 xn _) (load_whole h4 w _))
  iexists _; isplitr; · ipureintro; exact h8.read_unread _
  iexact H8

/-! ## The points -/

/-- The body normalises at the points ≡ 0 (mod 4): the first of each row block. -/
theorem norm_iff (t : Fin cfg0.N) : k0_cond1 (grid0.coords t) = 1#1 ↔ t.val % 4 = 0 := by
  have ht : t.val < 128 := Nat.lt_of_lt_of_eq t.isLt N_0
  have e1 : (grid0.coords t 1).val = t.val / 1 % 4 := Pipeline.Grid.coords_val t 1 (by decide) rfl
  simp only [k0_cond1, e1]
  word_cmp

/-- The gate window is idle at the others. -/
theorem idle_iff (t : Fin cfg0.N) : cfg0.idle 5 (cfg0.grid.coords t) = true ↔ t.val % 4 ≠ 0 := by
  rw [show cfg0.idle 5 (cfg0.grid.coords t) = !(k0_cond1 (grid0.coords t) == 1#1) from rfl, Bool.not_eq_true',
    beq_eq_false_iff_ne, ne_eq, norm_iff]

theorem idle_later (t : Fin cfg0.N) (h : t.val % 4 ≠ 0) : cfg0.idle 5 (cfg0.grid.coords t) = true := (idle_iff t).mpr h

theorem live_first (t : Fin cfg0.N) (h : t.val % 4 = 0) : cfg0.idle 5 (cfg0.grid.coords t) = false :=
  Bool.eq_false_iff.mpr fun e => (idle_iff t).mp e h

/-- The first point of the row block `t` lies in. -/
def start (t : Fin cfg0.N) : Fin cfg0.N := ⟨4 * (t.val / 4), Nat.lt_of_le_of_lt (Nat.mul_div_le _ _) t.isLt⟩

theorem start_first (t : Fin cfg0.N) (h : t.val % 4 = 0) : start t = t := Fin.ext (by unfold start; dsimp only; omega)

/-- A point that is not a row block's first lies in the row block of the point before. -/
theorem start_pred (t : Fin cfg0.N) (h : t.val % 4 ≠ 0) (hp : t.val - 1 < cfg0.N) : start ⟨t.val - 1, hp⟩ = start t :=
  Fin.ext (by unfold start; dsimp only; omega)

/-- The normalised rows of the row block `t` lies in, -/
def rows (c : Dev nD) (t : Fin cfg0.N) : Vec F S512x2048 .bf16 := k0_pay2 (iblk m c 0 (start t)) (iblk m c 1 (start t))

/-- its gate block, -/
def gate (c : Dev nD) (t : Fin cfg0.N) : Vec F S512x128 .f32 :=
  k0_pay3 (iblk m c 0 (start t)) (iblk m c 1 (start t)) (iblk m c 3 (start t))

/-- and what point `t` writes: the rows' products with the point's columns. -/
def prod (c : Dev nD) (t : Fin cfg0.N) : Vec F S512x2816 .bf16 := k0_pay4 (rows m c t) (iblk m c 2 t)

/-! ## The proof data -/

/-- The scratch array, as a memref. -/
abbrev scr : Memref sig .tc .vmem S512x2048 .bf16 := Memref.whole cc0_scratch0

/-- Between two points the scratch holds the rows of the point before; before the first, anything. -/
def Inv (c : Dev nD) : (n : ℕ) → n ≤ cfg0.N → sProp 𝕄
  | 0, _ => Pipeline.ΦA spec0 c
  | n + 1, hn => iprop(owns (c : Thread nD τ) scr fullShare (rows m c ⟨n, hn⟩) ∗ (∃ r, prngReg c r))

/-- What the launch hands the region: the scratch at anything, and the generator register at some state. -/
theorem launched (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

theorem Inv_pos (c : Dev nD) (n : ℕ) (h : n ≤ cfg0.N) (hz : n ≠ 0) :
    Inv (F := F) m c n h = iprop(owns (c : Thread nD τ) scr fullShare (rows m c ⟨n - 1, by omega⟩) ∗ (∃ r, prngReg c r)) := by
  cases n with
  | zero => exact absurd rfl hz
  | succ n => rfl

/-- Whatever the point, the scratch is held at something. -/
theorem Inv_forget (c : Dev nD) (n : ℕ) (h : n ≤ cfg0.N) : Inv (F := F) m c n h ⊢ Pipeline.ΦA spec0 c := by
  cases n with
  | zero => exact Idealize.SL.BI.Entails.refl _
  | succ n =>
    rw [launched]; unfold Inv
    iintro ⟨HS, Hg⟩
    isplitl [HS]
    · iexists _; iexact HS
    iexact Hg

/-- The pipeline's proof data: the arrays as the region finds them; each input's buffer at its block, the outputs' at
    `prod` and `gate`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prod m c t
    | ⟨5, _⟩ => gate m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_x (c : Dev nD) (t : Fin cfg0.N) : (dats m 0 c).after 0 t = iblk m c 0 t := by dsimp only [dats]
theorem after_gain (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_wg (c : Dev nD) (t : Fin cfg0.N) : (dats m 0 c).after 3 t = iblk m c 3 t := by dsimp only [dats]
theorem after_prod (c : Dev nD) (t : Fin cfg0.N) : (dats m 0 c).after 4 t = prod m c t := by dsimp only [dats]
theorem after_gate (c : Dev nD) (t : Fin cfg0.N) : (dats m 0 c).after 5 t = gate m c t := by dsimp only [dats]

theorem before_x (c : Dev nD) (t : Fin cfg0.N) (d) : (dats m 0 c).before 0 t d = iblk m c 0 t :=
  before0_0_of m (dats m 0 c) (A_eq m c 0) (after_x m c) t d
theorem before_gain (c : Dev nD) (t : Fin cfg0.N) (d) : (dats m 0 c).before 1 t d = iblk m c 1 t :=
  before0_1_of m (dats m 0 c) (A_eq m c 1) (after_gain m c) t d
theorem before_w (c : Dev nD) (t : Fin cfg0.N) (d) : (dats m 0 c).before 2 t d = iblk m c 2 t :=
  before0_2_of m (dats m 0 c) (A_eq m c 2) (after_w m c) t d
theorem before_wg (c : Dev nD) (t : Fin cfg0.N) (d) : (dats m 0 c).before 3 t d = iblk m c 3 t :=
  before0_3_of m (dats m 0 c) (A_eq m c 3) (after_wg m c) t d

/-- Inside a row block the gate buffer is not fresh: its first point stored into it and it has not been written back. -/
theorem not_fresh : ∀ (n : ℕ) (h : n < cfg0.N), n % 4 ≠ 0 → cfg0.fresh 5 n = false
  | 0, _, h0 => absurd rfl h0
  | n + 1, h, h0 => by
    have hn : n < cfg0.N := by omega
    rw [Cfg.fresh_succ cfg0 5 n hn, Bool.or_eq_false_iff]
    refine ⟨Bool.eq_false_iff.mpr fun e => ?_, ?_⟩
    · have := (flush0_5 ⟨n, hn⟩).mp e; dsimp only at this; omega
    · by_cases hz : n % 4 = 0
      · rw [live_first ⟨n, hn⟩ hz, Bool.false_and]
      · rw [not_fresh n hn hz, Bool.and_false]

/-- THE GATE BLOCK IS KEPT: at a point that is not a row block's first, the gate buffer still holds the row block's gate
    block, which is what the point is to leave. -/
theorem gate_kept (c : Dev nD) (t : Fin cfg0.N) (h : t.val % 4 ≠ 0) (d) : (dats m 0 c).before 5 t d = gate m c t := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := fun t _ hi _ => by
    rw [after_gate, after_gate]; unfold gate; rw [start_pred t ((idle_iff t).mp hi)]
  rw [(dats m 0 c).before_out_traj 5 rfl (fun _ _ => rfl) hcarry t.val t rfl d, not_fresh t.val t.isLt h, if_neg Bool.false_ne_true,
    after_gate]
  unfold gate; rw [start_pred t h]

/-! ## The body obligation -/

theorem idle_x : ∀ t : Fin cfg0.N, cfg0.idle 0 (cfg0.grid.coords t) = false := fun _ => rfl
theorem idle_gain : ∀ t : Fin cfg0.N, cfg0.idle 1 (cfg0.grid.coords t) = false := fun _ => rfl
theorem idle_w : ∀ t : Fin cfg0.N, cfg0.idle 2 (cfg0.grid.coords t) = false := fun _ => rfl
theorem idle_wg : ∀ t : Fin cfg0.N, cfg0.idle 3 (cfg0.grid.coords t) = false := fun _ => rfl
theorem idle_prod : ∀ t : Fin cfg0.N, cfg0.idle 4 (cfg0.grid.coords t) = false := fun _ => rfl

/-- At a point where the body stores into a window, it is to leave the window's buffer at `after`. -/
theorem leaves_live (c : Dev nD) (w : Fin cfg0.W) (t : Fin cfg0.N) (h : cfg0.idle w (cfg0.grid.coords t) = false) :
    (dats (F := F) m 0 c).leavesExact w t
      = owns (c : Thread nD τ) ((cfg0.win w).stage (cfg0.slots t w)) fullShare ((dats m 0 c).after w t) := by
  unfold Dat.leavesExact; rw [h]

/-- At a row block's later points a gate buffer at the gate block is what is to be left, written back there or not. -/
theorem leaves_gate (c : Dev nD) (t : Fin cfg0.N) (h : t.val % 4 ≠ 0) :
    owns (c : Thread nD τ) ((cfg0.win 5).stage (cfg0.slots t 5)) fullShare (gate m c t) ⊢ (dats (F := F) m 0 c).leavesExact 5 t := by
  unfold Dat.leavesExact
  rw [idle_later t h]
  cases hf : (cfg0.win 5).flush t with
  | true => exact .rfl
  | false =>
    dsimp only
    iintro H
    iexists (gate m c t)
    rw [gate_kept m c t h]
    iexact H

/-- What the body is called with at point `t`, window by window, -/
def Pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it is to return. -/
def Post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 3200000 in
/-- The body at a row block's first point. -/
theorem body_first (c : Dev nD) (t : Fin cfg0.N) (h : t.val % 4 = 0) :
    Pre m c t ⊢ wp frame (wpE (defs₀ (F := F)) Variants.none c none) Set.univ (bodyAt0 t) (fun _ => Post m c t) := by
  unfold Pre Post bodyAt0
  simp only [before_x, before_gain, before_w, before_wg]
  rw [show (dats m 0 c).owesAt () t.succ = (dats m 0 c).owesAt () t.castSucc from rfl,
    show (dats m 0 c).Φ t.succ = iprop(owns (c : Thread nD τ) scr fullShare (rows m c t) ∗ (∃ r, prngReg c r)) from rfl,
    leaves_live m c 0 t (idle_x t), leaves_live m c 1 t (idle_gain t), leaves_live m c 2 t (idle_w t),
    leaves_live m c 3 t (idle_wg t), leaves_live m c 4 t (idle_prod t), leaves_live m c 5 t (live_first t h),
    after_x, after_gain, after_w, after_wg, after_prod, after_gate]
  unfold prod gate rows
  rw [start_first t h]
  have hPhi : (dats m 0 c).Φ t.castSucc ⊢ iprop((∃ d, owns (c : Thread nD τ) scr fullShare d) ∗ (∃ r, prngReg c r)) := by
    rw [← launched]; exact Inv_forget m c t.val _
  refine (sep_mono hPhi .rfl).trans ?_
  iintro ⟨⟨HS, Hg⟩, Ho, ⟨%d0, H0⟩, ⟨%d1, H1⟩, ⟨%d2, H2⟩, ⟨%d3, H3⟩, ⟨%d4, H4⟩, ⟨%d5, H5⟩⟩
  iapply (first c (grid0.coords t) _ _ _ _ _ _ _ _ _ _ _ _ _ _ ((norm_iff t).mpr h) (iblk m c 0 t) (iblk m c 1 t) (iblk m c 2 t)
    (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 3200000 in
/-- The body at a row block's other points. -/
theorem body_later (c : Dev nD) (t : Fin cfg0.N) (h : t.val % 4 ≠ 0) :
    Pre m c t ⊢ wp frame (wpE (defs₀ (F := F)) Variants.none c none) Set.univ (bodyAt0 t) (fun _ => Post m c t) := by
  have hz : t.val ≠ 0 := fun e => h (by rw [e])
  have hPhi : (dats m 0 c).Φ t.castSucc = iprop(owns (c : Thread nD τ) scr fullShare (rows m c t) ∗ (∃ r, prngReg c r)) := by
    rw [show (dats m 0 c).Φ t.castSucc = Inv m c t.val (Nat.le_of_lt t.isLt) from rfl, Inv_pos m c _ _ hz]
    unfold rows; rw [start_pred t h]
  unfold Pre Post bodyAt0
  simp only [before_x, before_gain, before_w, before_wg, gate_kept m c t h]
  rw [hPhi, show (dats m 0 c).owesAt () t.succ = (dats m 0 c).owesAt () t.castSucc from rfl,
    show (dats m 0 c).Φ t.succ = iprop(owns (c : Thread nD τ) scr fullShare (rows m c t) ∗ (∃ r, prngReg c r)) from rfl,
    leaves_live m c 0 t (idle_x t), leaves_live m c 1 t (idle_gain t), leaves_live m c 2 t (idle_w t),
    leaves_live m c 3 t (idle_wg t), leaves_live m c 4 t (idle_prod t),
    after_x, after_gain, after_w, after_wg, after_prod]
  unfold prod
  iintro ⟨⟨HS, Hg⟩, Ho, ⟨%d0, H0⟩, ⟨%d1, H1⟩, ⟨%d2, H2⟩, ⟨%d3, H3⟩, ⟨%d4, H4⟩, ⟨%d5, H5⟩⟩
  iapply (later c (grid0.coords t) _ _ _ _ _ _ _ _ _ _ _ _ _ _ (fun e => h ((norm_iff t).mp e)) (iblk m c 2 t) (rows m c t)
    Set.univ _)
  isplitl [H2]; · iexact H2
  isplitl [H4]; · iexists _; iexact H4
  isplitl [HS]; · iexact HS
  iintro ⟨H2, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves_gate m c t h)
  iexact H5

/-- The body at any point. -/
theorem body (c : Dev nD) (t : Fin cfg0.N) :
    Pre m c t ⊢ wp frame (wpE (defs₀ (F := F)) Variants.none c none) Set.univ (bodyAt0 t) (fun _ => Post m c t) :=
  if h : t.val % 4 = 0 then body_first m c t h else body_later m c t h

/-- The body table's row at point `t` is the body as `bodyAt0` spells it. -/
theorem body_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, body_row]
  exact triple_restated (body m c t) rfl .rfl fun _ => .rfl

/-! ## The launch -/

theorem hin (c : Dev nD) : Pipeline.ΦA spec0 c ⊢ (dats m 0 c).Φ 0 := by
  exact Idealize.SL.BI.Entails.refl _

theorem hout (c : Dev nD) : (dats m 0 c).Φ (Fin.last cfg0.N) ⊢ Pipeline.ΦA spec0 c := Inv_forget m c cfg0.N _

set_option backward.isDefEq.respectTransparency.types false in
/-- Every weakly fair execution of the program terminates, with every array of the pipeline at what the library computes
    from the proof data, every other array as the region found it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.ProjIdeal.Rows

end
-- ==== Proof.ProjColumns.lean ====
/- The input projection: what an entry of each of the reference's two results is, at exact reals. -/
module

public import proofs.«01_k».proof.Proof.Gen.ProjReferenceIdeal.Run
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ProjReferenceIdeal.Value

open Cert.ProjReferenceIdeal Cert.ProjReferenceIdeal.Gen

/-! ## The order of the columns -/

/-- The column of `w_in` that column `d` of the regrouped matrix is. -/
def src (d : Fin 11264) : Fin 11272 :=
  ⟨if d.val < 4096 then 7176 + d.val else if d.val < 6144 then d.val - 4096 else if d.val < 8192 then d.val - 2040
    else if d.val < 10240 then d.val - 6144 else d.val - 4088, by have := d.isLt; split_ifs <;> omega⟩

set_option maxHeartbeats 3200000 in
/-- The nine pieces of a matrix's columns that go to the wide output, laid side by side in their new order: column `d` is
    column `src d` of the matrix, whatever the number of rows. -/
theorem regroup_at {α : Type} {R : ℕ} (a : Shape.Idx ⟨2, ![R, 11272]⟩ → α)
    (h0 : Shape.Slices ⟨2, ![R, 11272]⟩ ![0, 7176] ⟨2, ![R, 2048]⟩) (h1 : Shape.Slices ⟨2, ![R, 11272]⟩ ![0, 9224] ⟨2, ![R, 2048]⟩)
    (h2 : Shape.Slices ⟨2, ![R, 11272]⟩ ![0, 0] ⟨2, ![R, 1024]⟩) (h3 : Shape.Slices ⟨2, ![R, 11272]⟩ ![0, 1024] ⟨2, ![R, 1024]⟩)
    (h4 : Shape.Slices ⟨2, ![R, 11272]⟩ ![0, 4104] ⟨2, ![R, 1024]⟩) (h5 : Shape.Slices ⟨2, ![R, 11272]⟩ ![0, 5128] ⟨2, ![R, 1024]⟩)
    (h6 : Shape.Slices ⟨2, ![R, 11272]⟩ ![0, 2048] ⟨2, ![R, 1024]⟩) (h7 : Shape.Slices ⟨2, ![R, 11272]⟩ ![0, 3072] ⟨2, ![R, 1024]⟩)
    (h8 : Shape.Slices ⟨2, ![R, 11272]⟩ ![0, 6152] ⟨2, ![R, 1024]⟩)
    (hc : Shape.Concatenates [⟨2, ![R, 2048]⟩, ⟨2, ![R, 2048]⟩, ⟨2, ![R, 1024]⟩, ⟨2, ![R, 1024]⟩, ⟨2, ![R, 1024]⟩, ⟨2, ![R, 1024]⟩,
      ⟨2, ![R, 1024]⟩, ⟨2, ![R, 1024]⟩, ⟨2, ![R, 1024]⟩] ⟨2, ![R, 11264]⟩ 1) (r : Fin R) (d : Fin 11264) :
    concatenate ⟨2, ![R, 11264]⟩ 1 [⟨_, extractStridedSlice ⟨2, ![R, 2048]⟩ ![0, 7176] a h0⟩, ⟨_, extractStridedSlice ⟨2, ![R, 2048]⟩ ![0, 9224] a h1⟩,
      ⟨_, extractStridedSlice ⟨2, ![R, 1024]⟩ ![0, 0] a h2⟩, ⟨_, extractStridedSlice ⟨2, ![R, 1024]⟩ ![0, 1024] a h3⟩,
      ⟨_, extractStridedSlice ⟨2, ![R, 1024]⟩ ![0, 4104] a h4⟩, ⟨_, extractStridedSlice ⟨2, ![R, 1024]⟩ ![0, 5128] a h5⟩,
      ⟨_, extractStridedSlice ⟨2, ![R, 1024]⟩ ![0, 2048] a h6⟩, ⟨_, extractStridedSlice ⟨2, ![R, 1024]⟩ ![0, 3072] a h7⟩,
      ⟨_, extractStridedSlice ⟨2, ![R, 1024]⟩ ![0, 6152] a h8⟩] hc (ix2 r d) = a (ix2 r (src d)) := by
  have hd := d.isLt
  pointwise []
  split_ifs <;> refine congrArg a (funext fun b => Fin.ext ?_) <;> fin_cases b
  all_goals simp [Shape.Idx.norm, ix2, src]
  all_goals split_ifs <;> omega

/-! ## The reference's results -/

/-- The rows divided by their root mean square, each column multiplied by its gain. -/
def normed (x : FVec Ideal S1x16384x2048 .f32) (g : FVec Ideal S2048 .f32) : FVec Ideal S16384x2048 .f32 :=
  mulf (mulf (shapeCast _ x shapeCasts_S1x16384x2048_S16384x2048) (broadcastInDim S16384x2048 ![0, 1] bcast_S16384x1_S16384x2048_0_1
    (Host.rsqrt (addf (Host.divf
      (broadcastInDim S16384x1 ![0] bcast_S16384_S16384x1_0 (Host.reduceAdd (mulf (shapeCast _ x shapeCasts_S1x16384x2048_S16384x2048)
        (shapeCast _ x shapeCasts_S1x16384x2048_S16384x2048)) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The projection of the normalised rows by the whole of `w_in`. -/
def projected (x : FVec Ideal S1x16384x2048 .f32) (g : FVec Ideal S2048 .f32) (w : FVec Ideal S2048x11272 .f32) : FVec Ideal S16384x11272 .f32 :=
  Host.dotGeneral dot_S16384x2048_S2048x11272_S16384x11272_1_0_0_1_n_n none (normed x g) w

/-- The wide result: the projection's nine wide pieces in their new order. -/
def wideOf (x : FVec Ideal S1x16384x2048 .f32) (g : FVec Ideal S2048 .f32) (w : FVec Ideal S2048x11272 .f32) : FVec Ideal S16384x11264 .bf16 :=
  truncf .bf16 (concatenate S16384x11264 1
    [⟨S16384x2048, extractStridedSlice S16384x2048 ![0, 7176] (projected x g w) slices_S16384x11272_S16384x2048_0_7176⟩,
     ⟨S16384x2048, extractStridedSlice S16384x2048 ![0, 9224] (projected x g w) slices_S16384x11272_S16384x2048_0_9224⟩,
     ⟨S16384x1024, extractStridedSlice S16384x1024 ![0, 0] (projected x g w) slices_S16384x11272_S16384x1024_0_0⟩,
     ⟨S16384x1024, extractStridedSlice S16384x1024 ![0, 1024] (projected x g w) slices_S16384x11272_S16384x1024_0_1024⟩,
     ⟨S16384x1024, extractStridedSlice S16384x1024 ![0, 4104] (projected x g w) slices_S16384x11272_S16384x1024_0_4104⟩,
     ⟨S16384x1024, extractStridedSlice S16384x1024 ![0, 5128] (projected x g w) slices_S16384x11272_S16384x1024_0_5128⟩,
     ⟨S16384x1024, extractStridedSlice S16384x1024 ![0, 2048] (projected x g w) slices_S16384x11272_S16384x1024_0_2048⟩,
     ⟨S16384x1024, extractStridedSlice S16384x1024 ![0, 3072] (projected x g w) slices_S16384x11272_S16384x1024_0_3072⟩,
     ⟨S16384x1024, extractStridedSlice S16384x1024 ![0, 6152] (projected x g w) slices_S16384x11272_S16384x1024_0_6152⟩]
    concatenates_S16384x2048_S16384x2048_S16384x1024_S16384x1024_S16384x1024_S16384x1024_S16384x1024_S16384x1024_S16384x1024_S16384x11264_d1) bitsLt_bf16_f32

/-- The gate result: the projection's two gate pieces side by side, and zeros after them. -/
def gatesOf (x : FVec Ideal S1x16384x2048 .f32) (g : FVec Ideal S2048 .f32) (w : FVec Ideal S2048x11272 .f32) : FVec Ideal S16384x128 .f32 :=
  pad S16384x128 ![0, 0] ![0, 120] ![0, 0] (concatenate S16384x8 1
    [⟨S16384x4, extractStridedSlice S16384x4 ![0, 4096] (projected x g w) slices_S16384x11272_S16384x4_0_4096⟩,
     ⟨S16384x4, extractStridedSlice S16384x4 ![0, 4100] (projected x g w) slices_S16384x11272_S16384x4_0_4100⟩]
    concatenates_S16384x4_S16384x4_S16384x8_d1) (sitofp .f32 (constantI S_ 32 0#32)) pads_S16384x8_S16384x128_000_01200 h_S_

/-- An entry of the projection is the sum of the products along its row and column. -/
theorem projected_at (x : FVec Ideal S1x16384x2048 .f32) (g : FVec Ideal S2048 .f32) (w : FVec Ideal S2048x11272 .f32)
    (r : Fin 16384) (e : Fin 11272) :
    projected x g w (ix2 r e) = ∑ k : Fin 2048, normed x g (ix2 r k) * w (ix2 k e) := by
  pointwise [projected]

/-- An entry of the wide result is the projection's at the column it comes from. -/
theorem wide_at (x : FVec Ideal S1x16384x2048 .f32) (g : FVec Ideal S2048 .f32) (w : FVec Ideal S2048x11272 .f32)
    (r : Fin 16384) (d : Fin 11264) : wideOf x g w (ix2 r d) = ∑ k : Fin 2048, normed x g (ix2 r k) * w (ix2 k (src d)) :=
  (regroup_at (projected x g w) _ _ _ _ _ _ _ _ _
    concatenates_S16384x2048_S16384x2048_S16384x1024_S16384x1024_S16384x1024_S16384x1024_S16384x1024_S16384x1024_S16384x1024_S16384x11264_d1 r d).trans (projected_at x g w r (src d))

/-- An entry of the gate result: the projection's at its column for the first eight columns, zero after. -/
theorem gates_at (x : FVec Ideal S1x16384x2048 .f32) (g : FVec Ideal S2048 .f32) (w : FVec Ideal S2048x11272 .f32)
    (r : Fin 16384) (d : Fin 128) : gatesOf x g w (ix2 r d)
      = if h : d.val < 8 then ∑ k : Fin 2048, normed x g (ix2 r k) * w (ix2 k ⟨4096 + d.val, by omega⟩) else 0 := by
  simp only [← projected_at]
  pointwise [gatesOf]
  by_cases h : d.val < 8
  · rw [dif_pos h, dif_pos h]
    split_ifs with h4
    · rfl
    all_goals exact congrArg (projected x g w) (congrArg (ix2 r) (Fin.ext (by show 4100 + (d.val - 4) = 4096 + d.val; omega)))
  · rw [dif_neg h, dif_neg h]
    exact sitofp_zero

variable (m : (ℓ : Loc nD τ sig) → Buf (Elt Ideal) ℓ)

/-- The term the reference's run leaves is `wideOf` of the arguments. -/
theorem result_eq (c : Dev nD) : res_main_v29 m c = wideOf (m ((c.tc : Thread nD τ).loc main_arg0)) (m ((c.tc : Thread nD τ).loc main_arg1))
    (m ((c.tc : Thread nD τ).loc main_arg2)) := by
  unfold res_main_v29; rfl

end Cert.ProjReferenceIdeal.Value

end
-- ==== Proof.ProjValue.lean ====
/- The input projection: the arrays the kernel leaves are the reference's, at exact reals. -/
module

public import proofs.«01_k».proof.Proof.ProjLaunch
public import proofs.«01_k».proof.Proof.ProjColumns
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjIdeal.Value

open Cert.ProjIdeal Cert.ProjIdeal.Gen Cert.ProjIdeal.Rows
open Idealize.ShloMosaic.Pipeline (Dat)
open Cert.ProjReferenceIdeal.Value (src regroup_at normed wideOf gatesOf wide_at gates_at)

variable (m : (ℓ : Loc nD τ sig) → Buf (Elt Ideal) ℓ)

/-! ## The operands the host prepares -/

/-- The nine wide pieces of a matrix's columns side by side, in the order the host lays them. -/
def wideCols (a : FVec Ideal S2048x11272 .bf16) : FVec Ideal S2048x11264 .bf16 :=
  concatenate S2048x11264 1
    [⟨S2048x2048, extractStridedSlice S2048x2048 ![0, 7176] a slices_S2048x11272_S2048x2048_0_7176⟩,
     ⟨S2048x2048, extractStridedSlice S2048x2048 ![0, 9224] a slices_S2048x11272_S2048x2048_0_9224⟩,
     ⟨S2048x1024, extractStridedSlice S2048x1024 ![0, 0] a slices_S2048x11272_S2048x1024_0_0⟩,
     ⟨S2048x1024, extractStridedSlice S2048x1024 ![0, 1024] a slices_S2048x11272_S2048x1024_0_1024⟩,
     ⟨S2048x1024, extractStridedSlice S2048x1024 ![0, 4104] a slices_S2048x11272_S2048x1024_0_4104⟩,
     ⟨S2048x1024, extractStridedSlice S2048x1024 ![0, 5128] a slices_S2048x11272_S2048x1024_0_5128⟩,
     ⟨S2048x1024, extractStridedSlice S2048x1024 ![0, 2048] a slices_S2048x11272_S2048x1024_0_2048⟩,
     ⟨S2048x1024, extractStridedSlice S2048x1024 ![0, 3072] a slices_S2048x11272_S2048x1024_0_3072⟩,
     ⟨S2048x1024, extractStridedSlice S2048x1024 ![0, 6152] a slices_S2048x11272_S2048x1024_0_6152⟩]
    concatenates_S2048x2048_S2048x2048_S2048x1024_S2048x1024_S2048x1024_S2048x1024_S2048x1024_S2048x1024_S2048x1024_S2048x11264_d1

/-- The two gate pieces of a matrix's columns side by side, and 120 columns of zeros. -/
def gateCols (a : FVec Ideal S2048x11272 .bf16) : FVec Ideal S2048x128 .bf16 :=
  concatenate S2048x128 1
    [⟨S2048x4, extractStridedSlice S2048x4 ![0, 4096] a slices_S2048x11272_S2048x4_0_4096⟩,
     ⟨S2048x4, extractStridedSlice S2048x4 ![0, 4100] a slices_S2048x11272_S2048x4_0_4100⟩,
     ⟨S2048x120, broadcastInDim S2048x120 ![] bcast_S_S2048x120 (constant S_ .bf16 0x0000#16)⟩]
    concatenates_S2048x4_S2048x4_S2048x120_S2048x128_d1

/-- The wide weights the launch reads: the columns of `w_in`, in the wide matrix's order. -/
theorem wAll_eq (c : Dev nD) : V m c main_v12 = wideCols (truncf .bf16 (m ((c.tc : Thread nD τ).loc main_arg2) : FVec Ideal S2048x11272 .f32) bitsLt_bf16_f32) := by
  unfold V hostOps0
  after_results_simp <;> (try dsimp only [Matrix.cons_val]) <;> (try after_results_simp) <;> rfl

/-- The gate weights the launch reads: the gate columns of `w_in`. -/
theorem wGate_eq (c : Dev nD) : V m c main_v14 = gateCols (truncf .bf16 (m ((c.tc : Thread nD τ).loc main_arg2) : FVec Ideal S2048x11272 .f32) bitsLt_bf16_f32) := by
  unfold V hostOps0
  after_results_simp <;> (try dsimp only [Matrix.cons_val]) <;> (try after_results_simp) <;> rfl

/-- The gain the launch reads: the argument, with a leading axis. -/
theorem gain_eq (c : Dev nD) : V m c main_v15 = broadcastInDim S1x2048 ![1] bcast_S2048_S1x2048_1 (m ((c.tc : Thread nD τ).loc main_arg1) : FVec Ideal S2048 .f32) := by
  unfold V hostOps0
  after_results_simp <;> rfl

/-- The wide matrix the kernel is given: its column `d` is column `src d` of `w_in`. -/
theorem wAll_at (c : Dev nD) (k : Fin 2048) (d : Fin 11264) :
    (V m c main_v12 : FVec Ideal S2048x11264 .bf16) (ix2 k d)
      = (m ((c.tc : Thread nD τ).loc main_arg2) : FVec Ideal S2048x11272 .f32) (ix2 k (src d)) := by
  rw [wAll_eq]
  exact regroup_at _ _ _ _ _ _ _ _ _ _ concatenates_S2048x2048_S2048x2048_S2048x1024_S2048x1024_S2048x1024_S2048x1024_S2048x1024_S2048x1024_S2048x1024_S2048x11264_d1 k d

/-- The gate matrix the kernel is given: eight columns of `w_in`, then zeros. -/
theorem wGate_at (c : Dev nD) (k : Fin 2048) (d : Fin 128) :
    (V m c main_v14 : FVec Ideal S2048x128 .bf16) (ix2 k d)
      = (if h : d.val < 8 then (m ((c.tc : Thread nD τ).loc main_arg2) : FVec Ideal S2048x11272 .f32) (ix2 k ⟨4096 + d.val, by omega⟩) else (0 : EReal) : EReal) := by
  rw [wGate_eq]
  pointwise [gateCols]
  by_cases h4 : d.val < 4
  · rw [dif_pos h4, dif_pos (show d.val < 8 by omega)]
  · rw [dif_neg h4]
    by_cases h8 : d.val < 8
    · rw [dif_pos (show d.val - 4 < 4 by omega), dif_pos h8]
      exact congrArg _ (congrArg (ix2 k) (Fin.ext (show 4100 + (d.val - 4) = 4096 + d.val by omega)))
    · rw [dif_neg (show ¬ d.val - 4 < 4 by omega), dif_neg h8]

/-! ## What a point's blocks hold -/

/-- At grid point `t`, of the four of each block of rows: the row windows stand at block `t / 4`, the wide matrix's at its column
    block `t % 4`, the gain's and the gate matrix's at their only block. -/
theorem idx_val : ∀ t : Fin cfg0.N, win0_0.index t = ![0, t.val / 4, 0] ∧ win0_1.index t = ![0, 0] ∧ win0_2.index t = ![0, t.val % 4]
    ∧ win0_3.index t = ![0, 0] ∧ win0_4.index t = ![t.val / 4, t.val % 4] ∧ win0_5.index t = ![t.val / 4, 0] :=
  (by decide +kernel : ∀ t : Fin grid0.N, _)

/-- Row `r` of block `t / 4` of the matrix's rows. -/
def row (t : Fin cfg0.N) (r : Fin 512) : Fin 16384 :=
  ⟨t.val / 4 * 512 + r.val, by have := lt_of_lt_of_eq t.isLt (show cfg0.N = 128 from N_0); omega⟩

/-- Column `d` of column block `t % 4`. -/
def col (t : Fin cfg0.N) (d : Fin 2816) : Fin 11264 := ⟨t.val % 4 * 2816 + d.val, by omega⟩

/-- A block's rows are the same at the first of its four grid points. -/
theorem row_start (t : Fin cfg0.N) (r : Fin 512) : row (start t) r = row t r :=
  Fin.ext (by show 4 * (t.val / 4) / 4 * 512 + r.val = t.val / 4 * 512 + r.val; omega)

/-- A block's normalised rows are the reference's at the block's rows. -/
theorem normed_at (c : Dev nD) (t : Fin cfg0.N) (r : Fin 512) (k : Fin 2048) :
    k0_pay1 (F := Ideal) (iblk m c 0 t) (iblk m c 1 t) (ix2 r k)
      = normed (m ((c.tc : Thread nD τ).loc main_arg0)) (m ((c.tc : Thread nD τ).loc main_arg1)) (ix2 (row t r) k) := by
  have h1 : ∀ k : Fin 2048, (iblk m c 1 t : FVec Ideal S1x2048 .f32) (ix2 0 k) = (m ((c.tc : Thread nD τ).loc main_arg1) : FVec Ideal S2048 .f32) (ix1 k) := fun k => by
    have : ∀ k : Fin 2048, (V m c main_v15 : FVec Ideal S1x2048 .f32) (ix2 0 k) = (m ((c.tc : Thread nD τ).loc main_arg1) : FVec Ideal S2048 .f32) (ix1 k) := fun k => by
      rw [gain_eq]; pointwise []
    rw [← this]
    blk_point [iblk, idx_val t]
  pointwise [k0_pay1, normed]
  simp only [h1]
  blk_point [iblk, V, idx_val t, row]

/-! ## The wide result -/

/-- The wide matrix's block at a point is its column block. -/
theorem wBlk_at (c : Dev nD) (t : Fin cfg0.N) (k : Fin 2048) (d : Fin 2816) :
    (iblk m c 2 t : FVec Ideal S2048x2816 .bf16) (ix2 k d)
      = (m ((c.tc : Thread nD τ).loc main_arg2) : FVec Ideal S2048x11272 .f32) (ix2 k (src (col t d))) := by
  refine Eq.trans ?_ (wAll_at m c k (col t d))
  blk_point [iblk, idx_val t, col]

/-- What the body stores at an entry of its wide block is the reference's wide result there. -/
theorem prod_at (c : Dev nD) (t : Fin cfg0.N) (r : Fin 512) (d : Fin 2816) :
    prod m c t (ix2 r d) = wideOf (m ((c.tc : Thread nD τ).loc main_arg0)) (m ((c.tc : Thread nD τ).loc main_arg1))
      (m ((c.tc : Thread nD τ).loc main_arg2)) (ix2 (row t r) (col t d)) := by
  rw [wide_at]
  pointwise [prod, rows, k0_pay4, k0_pay2]
  simp only [normed_at, wBlk_at, row_start]

/-- The wide array the launch leaves is the reference's. -/
theorem final4 (c : Dev nD) : (dats m 0 c).arrAt 4 cfg0.N = wideOf (m ((c.tc : Thread nD τ).loc main_arg0))
    (m ((c.tc : Thread nD τ).loc main_arg1)) (m ((c.tc : Thread nD τ).loc main_arg2)) := by
  refine (dats m 0 c).arrAt_eq_of_covers 4 _ (by decide +kernel) fun t _ y => ?_
  have hy : ((View.whole main_v16_0).slice (win0_4.rect t)).emb y = ix2 (row t (y 0)) (col t (y 1)) := by
    funext a
    refine Fin.ext ((Pipeline.Window.rect_emb_val win0_4 t y a).trans ?_)
    match a with
    | ⟨0, _⟩ => rw [show win0_4.index t ⟨0, _⟩ = t.val / 4 from congrFun (idx_val t).2.2.2.2.1 0]; rfl
    | ⟨1, _⟩ => rw [show win0_4.index t ⟨1, _⟩ = t.val % 4 from congrFun (idx_val t).2.2.2.2.1 1]; rfl
  blk_simp
  rw [after_prod, hy]
  idx_vars y
  exact prod_at m c t _ _

/-! ## The gate result -/

/-- The gate matrix's block at a point is the whole of it. -/
theorem gBlk_at (c : Dev nD) (t : Fin cfg0.N) (k : Fin 2048) (d : Fin 128) :
    (iblk m c 3 t : FVec Ideal S2048x128 .bf16) (ix2 k d) = (if h : d.val < 8 then
      (m ((c.tc : Thread nD τ).loc main_arg2) : FVec Ideal S2048x11272 .f32) (ix2 k ⟨4096 + d.val, by omega⟩) else (0 : EReal) : EReal) := by
  refine Eq.trans ?_ (wGate_at m c k d)
  blk_point [iblk, idx_val t]

/-- What the body stores at an entry of its gate block is the reference's gate result there; past the eighth column every
    product has a zero factor. -/
theorem gate_at (c : Dev nD) (t : Fin cfg0.N) (r : Fin 512) (d : Fin 128) :
    gate m c t (ix2 r d) = gatesOf (m ((c.tc : Thread nD τ).loc main_arg0)) (m ((c.tc : Thread nD τ).loc main_arg1))
      (m ((c.tc : Thread nD τ).loc main_arg2)) (ix2 (row t r) d) := by
  rw [gates_at]
  pointwise [gate, k0_pay3]
  simp only [normed_at, gBlk_at, row_start]
  by_cases h : d.val < 8
  · simp only [dif_pos h]
  · simp only [dif_neg h]
    exact Finset.sum_eq_zero fun k _ => mul_zero _

/-- The gate array the launch leaves is the reference's. -/
theorem final5 (c : Dev nD) : (dats m 0 c).arrAt 5 cfg0.N = gatesOf (m ((c.tc : Thread nD τ).loc main_arg0))
    (m ((c.tc : Thread nD τ).loc main_arg1)) (m ((c.tc : Thread nD τ).loc main_arg2)) := by
  refine (dats m 0 c).arrAt_eq_of_covers 5 _ (by decide +kernel) fun t _ y => ?_
  have hy : ((View.whole main_v16_1).slice (win0_5.rect t)).emb y = ix2 (row t (y 0)) (y 1) := by
    funext a
    refine Fin.ext ((Pipeline.Window.rect_emb_val win0_5 t y a).trans ?_)
    match a with
    | ⟨0, _⟩ => rw [show win0_5.index t ⟨0, _⟩ = t.val / 4 from congrFun (idx_val t).2.2.2.2.2 0]; rfl
    | ⟨1, _⟩ => rw [show win0_5.index t ⟨1, _⟩ = 0 from congrFun (idx_val t).2.2.2.2.2 1, Nat.zero_mul, Nat.zero_add]; rfl
  blk_simp
  rw [after_gate, hy]
  idx_vars y
  exact gate_at m c t _ _

/-! ## The launch -/

/-- The launch ends with its two arrays at what the proof data say, and its arguments as it found them. -/
theorem run_arrays (ρ : Dev nD → PrngReg) : θ_run defs (onTc (τ := τ) (main (F := Ideal))) ⟨m, fun _ => 0, ρ⟩ fun r => ∀ c : Dev nD,
      r.2.mem ((c.tc : Thread nD τ).loc main_v16_0) = (dats m 0 c).arrAt 4 cfg0.N
      ∧ r.2.mem ((c.tc : Thread nD τ).loc main_v16_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 4, (h.1 c).1 5, h.2 c⟩)
    (θ_run_and (Rows.run m ρ) (frame_of m ρ (dats m) (A_eq m) (Rows.run m ρ)))

end Cert.ProjIdeal.Value

end
-- ==== Proof.PrepRows.lean ====
/- What the two branches read: what an entry of each of the reference's results is, at exact reals. -/
module

public import proofs.«01_k».proof.Proof.Gen.PrepReferenceIdeal.Run
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.PrepReferenceIdeal.Value

open Cert.PrepReferenceIdeal Cert.PrepReferenceIdeal.Gen

/-! ## The causal convolution -/

/-- The convolved columns, with three rows of zeros before the first. -/
def padded (x : FVec Ideal S16384x11264 .f32) : FVec Ideal S16387x2048 .f32 :=
  pad S16387x2048 ![3, 0] ![0, 0] ![0, 0] (extractStridedSlice S16384x2048 ![0, 4096] x slices_S16384x11264_S16384x2048_0_4096)
    (sitofp .f32 (constantI S_ 32 0#32)) pads_S16384x2048_S16387x2048_300_000 h_S_

/-- A row of four taps' weights, laid over every row. -/
def overRows (w : FVec Ideal S1x2048 .f32) : FVec Ideal S16384x2048 .f32 :=
  broadcastInDim S16384x2048 ![0, 1] bcast_S1x2048_S16384x2048_0_1
    (broadcastInDim S1x2048 ![1] bcast_S2048_S1x2048_1 (shapeCast S2048 w shapeCasts_S1x2048_S2048))

/-- The four taps and the bias. -/
def conv (x : FVec Ideal S16384x11264 .f32) (w : FVec Ideal S4x2048 .f32) (b : FVec Ideal S2048 .f32) : FVec Ideal S16384x2048 .f32 :=
  addf (addf (addf (addf
    (mulf (overRows (extractStridedSlice S1x2048 ![0, 0] w slices_S4x2048_S1x2048_0_0))
      (extractStridedSlice S16384x2048 ![0, 0] (padded x) slices_S16387x2048_S16384x2048_0_0))
    (mulf (overRows (extractStridedSlice S1x2048 ![1, 0] w slices_S4x2048_S1x2048_1_0))
      (extractStridedSlice S16384x2048 ![1, 0] (padded x) slices_S16387x2048_S16384x2048_1_0)))
    (mulf (overRows (extractStridedSlice S1x2048 ![2, 0] w slices_S4x2048_S1x2048_2_0))
      (extractStridedSlice S16384x2048 ![2, 0] (padded x) slices_S16387x2048_S16384x2048_2_0)))
    (mulf (overRows (extractStridedSlice S1x2048 ![3, 0] w slices_S4x2048_S1x2048_3_0))
      (extractStridedSlice S16384x2048 ![3, 0] (padded x) slices_S16387x2048_S16384x2048_3_0)))
    (broadcastInDim S16384x2048 ![0, 1] bcast_S1x2048_S16384x2048_0_1 (broadcastInDim S1x2048 ![1] bcast_S2048_S1x2048_1 b))

/-- The convolution through the unit `y / (1 + exp (-y))`. -/
def act (x : FVec Ideal S16384x11264 .f32) (w : FVec Ideal S4x2048 .f32) (b : FVec Ideal S2048 .f32) : FVec Ideal S16384x2048 .f32 :=
  mulf (conv x w b) (Host.divf (broadcastInDim S16384x2048 ![] bcast_S_S16384x2048 (constant S_ .f32 0x3F800000#32))
    (addf (broadcastInDim S16384x2048 ![] bcast_S_S16384x2048 (constant S_ .f32 0x3F800000#32)) (Host.exp (Host.negf (conv x w b)))))

/-- The recurrent branch's queries. -/
def mqOf (x : FVec Ideal S16384x11264 .f32) (w : FVec Ideal S4x2048 .f32) (b : FVec Ideal S2048 .f32) : FVec Ideal S16384x1024 .bf16 :=
  truncf .bf16 (extractStridedSlice S16384x1024 ![0, 0] (act x w b) slices_S16384x2048_S16384x1024_0_0) bitsLt_bf16_f32

/-- The recurrent branch's keys, scaled and transposed. -/
def mkTOf (x : FVec Ideal S16384x11264 .f32) (w : FVec Ideal S4x2048 .f32) (b : FVec Ideal S2048 .f32) : FVec Ideal S1024x16384 .bf16 :=
  truncf .bf16 (transpose S1024x16384 [1, 0] (mulf (extractStridedSlice S16384x1024 ![0, 1024] (act x w b) slices_S16384x2048_S16384x1024_0_1024)
    (broadcastInDim S16384x1024 ![] bcast_S_S16384x1024 (constant S_ .f32 0x3D800000#32))) transposes_S16384x1024_S1024x16384_1_0) bitsLt_bf16_f32

/-- Column `d` of the convolved columns `k` rows before row `r`; zero before the first row. -/
def before (x : FVec Ideal S16384x11264 .f32) (k : ℕ) (r : Fin 16384) (d : Fin 2048) : EReal :=
  if h : k ≤ r.val then x (ix2 ⟨r.val - k, by have := r.isLt; omega⟩ ⟨4096 + d.val, by have := d.isLt; omega⟩) else 0

/-- An entry of the convolution: the four taps on the row and the three before it, and the bias. -/
def convAt (x : FVec Ideal S16384x11264 .f32) (w : FVec Ideal S4x2048 .f32) (b : FVec Ideal S2048 .f32) (r : Fin 16384) (d : Fin 2048) : EReal :=
  w (ix2 0 d) * before x 3 r d + w (ix2 1 d) * before x 2 r d + w (ix2 2 d) * before x 1 r d + w (ix2 3 d) * before x 0 r d + b (ix1 d)

/-- An entry of the padded columns. -/
theorem padded_at (x : FVec Ideal S16384x11264 .f32) (k : ℕ) (hk : k ≤ 3) (r : Fin 16384) (d : Fin 2048) (q : Fin 16387) (hq : q.val = 3 - k + r.val) :
    padded x (ix2 q d) = before x k r d := by
  have hr := r.isLt
  pointwise [padded]
  unfold before
  split_ifs <;> first | omega | exact sitofp_zero | skip
  exact congrArg x (congrArg₂ ix2 (Fin.ext (by simp; omega)) (Fin.ext (by simp)))

/-- An entry of the convolution's array. -/
theorem conv_at (x : FVec Ideal S16384x11264 .f32) (w : FVec Ideal S4x2048 .f32) (b : FVec Ideal S2048 .f32) (r : Fin 16384) (d : Fin 2048) :
    conv x w b (ix2 r d) = convAt x w b r d := by
  have hr := r.isLt
  unfold convAt
  rw [← padded_at x 3 (by omega) r d ⟨r.val, by omega⟩ (by simp), ← padded_at x 2 (by omega) r d ⟨1 + r.val, by omega⟩ (by simp),
    ← padded_at x 1 (by omega) r d ⟨2 + r.val, by omega⟩ (by simp), ← padded_at x 0 (by omega) r d ⟨3 + r.val, by omega⟩ (by simp)]
  pointwise [conv, overRows]

/-- The unit on an entry. -/
def unitAt (y : EReal) : EReal := y * Ideal.div 1 (1 + Ideal.exp (-y))

/-- An entry after the unit. -/
theorem act_at (x : FVec Ideal S16384x11264 .f32) (w : FVec Ideal S4x2048 .f32) (b : FVec Ideal S2048 .f32) (r : Fin 16384) (d : Fin 2048) :
    act x w b (ix2 r d) = unitAt (convAt x w b r d) := by
  rw [← conv_at]
  pointwise [act]
  rfl

/-! ## The rotary embedding -/

/-- The 64 frequencies, twice. -/
def freqs : FVec Ideal S128 .f32 :=
  concatenate S128 0
    [⟨S64, Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32))))⟩,
     ⟨S64, Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32))))⟩]
    concatenates_S64_S64_S128_d0

/-- Each position's angles. -/
def angles (p : IVec S16384 32) : FVec Ideal S16384x128 .f32 :=
  mulf (broadcastInDim S16384x128 ![0, 1] bcast_S16384x1_S16384x128_0_1 (broadcastInDim S16384x1 ![0] bcast_S16384_S16384x1_0 (sitofp .f32 p)))
    (broadcastInDim S16384x128 ![0, 1] bcast_S1x128_S16384x128_0_1 (broadcastInDim S1x128 ![1] bcast_S128_S1x128_1 freqs))

/-- The sixteen heads' columns. -/
def heads (x : FVec Ideal S16384x11264 .f32) : FVec Ideal S16384x16x128 .f32 :=
  shapeCast S16384x16x128 (extractStridedSlice S16384x2048 ![0, 6144] x slices_S16384x11264_S16384x2048_0_6144) shapeCasts_S16384x2048_S16384x16x128

/-- The heads' columns turned by their angles. -/
def turned (x : FVec Ideal S16384x11264 .f32) (p : IVec S16384 32) : FVec Ideal S16384x16x128 .f32 :=
  addf (mulf (heads x) (broadcastInDim S16384x16x128 ![0, 1, 2] bcast_S16384x1x128_S16384x16x128_0_1_2 (Host.cos (broadcastInDim S16384x1x128 ![0, 2] bcast_S16384x128_S16384x1x128_0_2 (angles p)))))
    (mulf (concatenate S16384x16x128 2
      [⟨S16384x16x64, Host.negf (extractStridedSlice S16384x16x64 ![0, 0, 64] (heads x) slices_S16384x16x128_S16384x16x64_0_0_64)⟩,
       ⟨S16384x16x64, extractStridedSlice S16384x16x64 ![0, 0, 0] (heads x) slices_S16384x16x128_S16384x16x64_0_0_0⟩] concatenates_S16384x16x64_S16384x16x64_S16384x16x128_d2)
      (broadcastInDim S16384x16x128 ![0, 1, 2] bcast_S16384x1x128_S16384x16x128_0_1_2 (Host.sin (broadcastInDim S16384x1x128 ![0, 2] bcast_S16384x128_S16384x1x128_0_2 (angles p)))))

/-- The first eight heads, one after another. -/
def aqOf (x : FVec Ideal S16384x11264 .f32) (p : IVec S16384 32) : FVec Ideal S8x16384x128 .f32 :=
  transpose S8x16384x128 [1, 0, 2] (extractStridedSlice S16384x8x128 ![0, 0, 0] (turned x p) slices_S16384x16x128_S16384x8x128_0_0_0) transposes_S16384x8x128_S8x16384x128_1_0_2

/-- The last eight heads, side by side. -/
def keys (x : FVec Ideal S16384x11264 .f32) (p : IVec S16384 32) : FVec Ideal S16384x1024 .f32 :=
  shapeCast S16384x1024 (extractStridedSlice S16384x8x128 ![0, 8, 0] (turned x p) slices_S16384x16x128_S16384x8x128_0_8_0) shapeCasts_S16384x8x128_S16384x1024

/-- The last eight heads in the keys' storage type. -/
def akOf (x : FVec Ideal S16384x11264 .f32) (p : IVec S16384 32) : FVec Ideal S16384x1024 .bf16 := truncf .bf16 (keys x p) bitsLt_bf16_f32

/-- The mean of the keys of each block of 256 rows. -/
def kmeanOf (x : FVec Ideal S16384x11264 .f32) (p : IVec S16384 32) : FVec Ideal S64x1x1024 .f32 :=
  Host.divf (broadcastInDim S64x1x1024 ![0, 2] bcast_S64x1024_S64x1x1024_0_2 (Host.reduceAdd (shapeCast S64x256x1024 (keys x p) shapeCasts_S16384x1024_S64x256x1024)
    (constant S_ .f32 0x00000000#32) reducesTo_S64x256x1024_S64x1024_d1 h_S_)) (broadcastInDim S64x1x1024 ![] bcast_S_S64x1x1024 (constant S_ .f32 0x43800000#32))

/-- The values' columns, transposed. -/
def avTOf (x : FVec Ideal S16384x11264 .f32) : FVec Ideal S1024x16384 .bf16 :=
  truncf .bf16 (transpose S1024x16384 [1, 0] (extractStridedSlice S16384x1024 ![0, 10240] x slices_S16384x11264_S16384x1024_0_10240)
    transposes_S16384x1024_S1024x16384_1_0) bitsLt_bf16_f32

/-- An entry of the turned heads in closed form: the lower half of a head takes minus the upper half's column, the upper half the lower's. -/
def turnedAt (x : FVec Ideal S16384x11264 .f32) (p : IVec S16384 32) (r : Fin 16384) (h : Fin 16) (d : Fin 128) : EReal :=
  x (ix2 r ⟨6144 + (h.val * 128 + d.val), by omega⟩) * Ideal.cos (angles p (ix2 r d))
    + (if hd : d.val < 64 then -x (ix2 r ⟨6144 + (h.val * 128 + (64 + d.val)), by omega⟩) else x (ix2 r ⟨6144 + (h.val * 128 + (d.val - 64)), by omega⟩))
      * Ideal.sin (angles p (ix2 r d))

/-- An entry of the turned heads. -/
theorem turned_at (x : FVec Ideal S16384x11264 .f32) (p : IVec S16384 32) (r : Fin 16384) (h : Fin 16) (d : Fin 128) :
    turned x p (ix3 r h d) = turnedAt x p r h d := by
  pointwise [turned, heads, turnedAt]

/-! ## The gates -/

/-- The four biases of the input gates, the four of the forget gates, and zeros. -/
def biases (i f : FVec Ideal S4 .f32) : FVec Ideal S128 .f32 :=
  concatenate S128 0 [⟨S4, i⟩, ⟨S4, f⟩, ⟨S120, broadcastInDim S120 ![] bcast_S_S120 (constant S_ .f32 0x00000000#32)⟩] concatenates_S4_S4_S120_S128_d0

/-- The gates' logits. -/
def logits (a : FVec Ideal S16384x128 .f32) (i f : FVec Ideal S4 .f32) : FVec Ideal S16384x128 .f32 :=
  addf a (broadcastInDim S16384x128 ![0, 1] bcast_S1x128_S16384x128_0_1 (broadcastInDim S1x128 ![1] bcast_S128_S1x128_1 (biases i f)))

/-- The logarithms of the forget gates. -/
def logF (a : FVec Ideal S16384x128 .f32) (i f : FVec Ideal S4 .f32) : FVec Ideal S16384x128 .f32 :=
  subf (minimumf (logits a i f) (broadcastInDim S16384x128 ![] bcast_S_S16384x128 (constant S_ .f32 0x00000000#32)))
    (Host.log1p (Host.exp (Host.negf (Host.absf (logits a i f)))))

/-- The ones on and under the diagonal. -/
def upto : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))

/-- The logarithms summed within each run of 128 rows. -/
def sums (a : FVec Ideal S16384x128 .f32) (i f : FVec Ideal S4 .f32) : FVec Ideal S16384x128 .f32 :=
  shapeCast S16384x128 (transpose S128x128x128 [0, 2, 1] (Host.dotGeneral dot_S128x128x128_S128x128_S128x128x128_1_1_02_0_n_n none
    (shapeCast S128x128x128 (logF a i f) shapeCasts_S16384x128_S128x128x128) upto) transposes_S128x128x128_S128x128x128_0_2_1) shapeCasts_S128x128x128_S16384x128

/-- The gates: the input gates' logits, then the forget gates' sums. -/
def gatesOf (a : FVec Ideal S16384x128 .f32) (i f : FVec Ideal S4 .f32) : FVec Ideal S16384x128 .f32 :=
  select (broadcastInDim S16384x128 ![1] bcast_S128_S16384x128_1 (cmpi .slt (iotaInDim S128 32 0) (broadcastInDim S128 ![] bcast_S_S128 (constantI S_ 32 4#32))))
    (logits a i f) (sums a i f)

/-- The eight gates, transposed. -/
def gtOf (a : FVec Ideal S16384x128 .f32) (i f : FVec Ideal S4 .f32) : FVec Ideal S8x16384 .f32 :=
  transpose S8x16384 [1, 0] (extractStridedSlice S16384x8 ![0, 0] (gatesOf a i f) slices_S16384x128_S16384x8_0_0) transposes_S16384x8_S8x16384_1_0

/-- An entry of the sums: the logarithms of its run of 128 rows, as far as its row. -/
theorem sums_at (a : FVec Ideal S16384x128 .f32) (i f : FVec Ideal S4 .f32) (r : Fin 16384) (d : Fin 128) :
    sums a i f (ix2 r d) = ∑ s : Fin 128, if s.val ≤ r.val % 128 then logF a i f (ix2 ⟨r.val / 128 * 128 + s.val, by omega⟩ d) else 0 := by
  have hc : ∀ a b : Fin 128, IntOp.cmpi CmpIPredicate.sge (IntOp.addi (BitVec.ofNat 32 a.val) 0#32) (BitVec.ofNat 32 b.val)
      = if b.val ≤ a.val then 1#1 else 0#1 := by decide +kernel
  pointwise [sums, upto]
  refine Finset.sum_congr rfl fun s _ => ?_
  rw [hc ⟨r.val % 128, by omega⟩ s]
  by_cases h : s.val ≤ r.val % 128
  · rw [if_pos h, if_pos h]; rfl
  · rw [if_neg h, if_neg h]; rfl

end Cert.PrepReferenceIdeal.Value

end
-- ==== Proof.PrepBlocks.lean ====
/- What the two branches read: what the blocks of a grid point hold, at exact reals. -/
module

public import proofs.«01_k».proof.Proof.Gen.PrepIdeal.Value
public import proofs.«01_k».proof.Proof.PrepRows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.PrepIdeal.Value

open Cert.PrepIdeal Cert.PrepIdeal.Gen
open Idealize.ShloMosaic.Pipeline (Dat)

variable (m : (ℓ : Loc nD τ sig) → Buf (Elt Ideal) ℓ)

/-- At grid point `t` every row window stands at block `t`, the halo's at the sixteen rows before it, the others at their only block. -/
theorem idx_val : ∀ t : Fin cfg0.N, win0_0.index t = ![t.val, 2] ∧ win0_1.index t = ![t.val * 16 - 1, 2] ∧ win0_2.index t = ![t.val, 3]
    ∧ win0_3.index t = ![t.val, 10] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![0, t.val] ∧ win0_12.index t = ![0, t.val, 0] ∧ win0_13.index t = ![t.val, 0] ∧ win0_14.index t = ![0, t.val]
    ∧ win0_15.index t = ![t.val, 0, 0] ∧ win0_16.index t = ![t.val, 0] ∧ win0_17.index t = ![0, t.val] :=
  (by decide +kernel : ∀ t : Fin grid0.N, _)

/-- Row `r` of block `t`. -/
def row (t : Fin cfg0.N) (r : Fin 256) : Fin 16384 :=
  ⟨256 * t.val + r.val, by have := lt_of_lt_of_eq t.isLt (show cfg0.N = 64 from N_0); omega⟩

/-- The wide array in its storage type. -/
def stored (x : FVec Ideal S16384x11264 .f32) : FVec Ideal S16384x11264 .bf16 := truncf .bf16 x bitsLt_bf16_f32

/-- The wide array the kernel is given holds the argument's numbers. -/
theorem wide_eq (c : Dev nD) : V m c main_v16 = stored (m ((c.tc : Thread nD τ).loc main_arg0)) := by
  unfold V hostOps0
  after_results_simp <;> (try dsimp only [Matrix.cons_val]) <;> (try after_results_simp) <;> rfl

/-- The column of positions the kernel is given. -/
theorem pos_eq (c : Dev nD) : V m c main_v17 = shapeCast S16384x1 (m ((c.tc : Thread nD τ).loc main_arg2) : IVec S16384 32) shapeCasts_S16384_S16384x1 := by
  unfold V hostOps0
  after_results_simp <;> (try dsimp only [Matrix.cons_val]) <;> (try after_results_simp) <;> rfl

/-- The row of frequencies the kernel is given is the reference's. -/
theorem freq_eq (c : Dev nD) : V m c main_v15 = broadcastInDim S1x128 ![1] bcast_S128_S1x128_1 Cert.PrepReferenceIdeal.Value.freqs := by
  unfold V hostOps0
  after_results_simp <;> (try dsimp only [Matrix.cons_val]) <;> (try after_results_simp) <;> rfl

/-- The row of the convolution's bias the kernel is given. -/
theorem bias_eq (c : Dev nD) : V m c main_v18 = broadcastInDim S1x2048 ![1] bcast_S2048_S1x2048_1 (m ((c.tc : Thread nD τ).loc main_arg4) : FVec Ideal S2048 .f32) := by
  unfold V hostOps0
  after_results_simp <;> (try dsimp only [Matrix.cons_val]) <;> (try after_results_simp) <;> rfl

/-- The row of the gates' biases the kernel is given. -/
theorem gbias_eq (c : Dev nD) : V m c main_v2 = broadcastInDim S1x128 ![1] bcast_S128_S1x128_1
    (Cert.PrepReferenceIdeal.Value.biases (m ((c.tc : Thread nD τ).loc main_arg5)) (m ((c.tc : Thread nD τ).loc main_arg6))) := by
  unfold V hostOps0
  after_results_simp <;> (try dsimp only [Matrix.cons_val]) <;> (try after_results_simp) <;> rfl

/-- A block of the convolved columns. -/
theorem x0_at (c : Dev nD) (t : Fin cfg0.N) (r : Fin 256) (d : Fin 2048) :
    (X0_0 m c t : FVec Ideal S256x2048 .bf16) (ix2 r d) = (m ((c.tc : Thread nD τ).loc main_arg0) : FVec Ideal S16384x11264 .f32) (ix2 (row t r) ⟨4096 + d.val, by omega⟩) := by
  unfold X0_0 Pipeline.Window.fill; rw [dif_pos (moved0_0 t _)]
  refine Eq.trans ?_ (show (V m c main_v16 : FVec Ideal S16384x11264 .bf16) (ix2 (row t r) ⟨4096 + d.val, by omega⟩) = _ by rw [wide_eq]; pointwise [stored])
  blk_point [iblk, idx_val t, row]

/-- The sixteen rows before a block, away from the first block. -/
theorem x1_at (c : Dev nD) (t : Fin cfg0.N) (ht : t.val ≠ 0) (r : Fin 16) (d : Fin 2048) :
    (X0_1 m c t : FVec Ideal S16x2048 .bf16) (ix2 r d) = (m ((c.tc : Thread nD τ).loc main_arg0) : FVec Ideal S16384x11264 .f32)
      (ix2 ⟨256 * t.val - 16 + r.val, by have := lt_of_lt_of_eq t.isLt (show cfg0.N = 64 from N_0); omega⟩ ⟨4096 + d.val, by omega⟩) := by
  unfold X0_1 Pipeline.Window.fill; rw [dif_pos (moved0_1 t _)]
  refine Eq.trans ?_ (show (V m c main_v16 : FVec Ideal S16384x11264 .bf16) (ix2 ⟨256 * t.val - 16 + r.val, by have := lt_of_lt_of_eq t.isLt (show cfg0.N = 64 from N_0); omega⟩ ⟨4096 + d.val, by omega⟩) = _ by rw [wide_eq]; pointwise [stored])
  blk_point [iblk, idx_val t]

/-- A block of the attention's queries and keys. -/
theorem x2_at (c : Dev nD) (t : Fin cfg0.N) (r : Fin 256) (d : Fin 2048) :
    (X0_2 m c t : FVec Ideal S256x2048 .bf16) (ix2 r d) = (m ((c.tc : Thread nD τ).loc main_arg0) : FVec Ideal S16384x11264 .f32) (ix2 (row t r) ⟨6144 + d.val, by omega⟩) := by
  unfold X0_2 Pipeline.Window.fill; rw [dif_pos (moved0_2 t _)]
  refine Eq.trans ?_ (show (V m c main_v16 : FVec Ideal S16384x11264 .bf16) (ix2 (row t r) ⟨6144 + d.val, by omega⟩) = _ by rw [wide_eq]; pointwise [stored])
  blk_point [iblk, idx_val t, row]

/-- A block of the attention's values. -/
theorem x3_at (c : Dev nD) (t : Fin cfg0.N) (r : Fin 256) (d : Fin 1024) :
    (iblk m c 3 t : FVec Ideal S256x1024 .bf16) (ix2 r d) = (m ((c.tc : Thread nD τ).loc main_arg0) : FVec Ideal S16384x11264 .f32) (ix2 (row t r) ⟨10240 + d.val, by omega⟩) := by
  refine Eq.trans ?_ (show (V m c main_v16 : FVec Ideal S16384x11264 .bf16) (ix2 (row t r) ⟨10240 + d.val, by omega⟩) = _ by rw [wide_eq]; pointwise [stored])
  blk_point [iblk, idx_val t, row]

/-- A block of the gates. -/
theorem x4_at (c : Dev nD) (t : Fin cfg0.N) (r : Fin 256) (d : Fin 128) :
    (iblk m c 4 t : FVec Ideal S256x128 .f32) (ix2 r d) = (m ((c.tc : Thread nD τ).loc main_arg1) : FVec Ideal S16384x128 .f32) (ix2 (row t r) d) := by
  blk_point [iblk, V, idx_val t, row]

/-- A block of the positions. -/
theorem x5_at (c : Dev nD) (t : Fin cfg0.N) (r : Fin 256) :
    (iblk m c 5 t : IVec S256x1 32) (ix2 r 0) = (m ((c.tc : Thread nD τ).loc main_arg2) : IVec S16384 32) (ix1 (row t r)) := by
  refine Eq.trans ?_ (show (V m c main_v17 : IVec S16384x1 32) (ix2 (row t r) 0) = _ by rw [pos_eq]; pointwise [])
  blk_point [iblk, idx_val t, row]

/-- The frequencies. -/
theorem x6_at (c : Dev nD) (t : Fin cfg0.N) (d : Fin 128) :
    (iblk m c 6 t : FVec Ideal S1x128 .f32) (ix2 0 d) = Cert.PrepReferenceIdeal.Value.freqs (ix1 d) := by
  refine Eq.trans ?_ (show (V m c main_v15 : FVec Ideal S1x128 .f32) (ix2 0 d) = _ by rw [freq_eq]; pointwise [])
  blk_point [iblk, idx_val t]

/-- The taps' weights. -/
theorem x7_at (c : Dev nD) (t : Fin cfg0.N) (j : Fin 4) (d : Fin 2048) :
    (iblk m c 7 t : FVec Ideal S4x2048 .f32) (ix2 j d) = (m ((c.tc : Thread nD τ).loc main_arg3) : FVec Ideal S4x2048 .f32) (ix2 j d) := by
  blk_point [iblk, V, idx_val t]

/-- The convolution's bias. -/
theorem x8_at (c : Dev nD) (t : Fin cfg0.N) (d : Fin 2048) :
    (iblk m c 8 t : FVec Ideal S1x2048 .f32) (ix2 0 d) = (m ((c.tc : Thread nD τ).loc main_arg4) : FVec Ideal S2048 .f32) (ix1 d) := by
  refine Eq.trans ?_ (show (V m c main_v18 : FVec Ideal S1x2048 .f32) (ix2 0 d) = _ by rw [bias_eq]; pointwise [])
  blk_point [iblk, idx_val t]

/-- The gates' biases. -/
theorem x9_at (c : Dev nD) (t : Fin cfg0.N) (d : Fin 128) :
    (iblk m c 9 t : FVec Ideal S1x128 .f32) (ix2 0 d) = Cert.PrepReferenceIdeal.Value.biases (m ((c.tc : Thread nD τ).loc main_arg5)) (m ((c.tc : Thread nD τ).loc main_arg6)) (ix1 d) := by
  refine Eq.trans ?_ (show (V m c main_v2 : FVec Ideal S1x128 .f32) (ix2 0 d) = _ by rw [gbias_eq]; pointwise [])
  blk_point [iblk, idx_val t]

end Cert.PrepIdeal.Value

end
-- ==== Proof.PrepHeads.lean ====
/- What the two branches read: the attention's queries, keys, key means and values, at exact reals. -/
module

public import proofs.«01_k».proof.Proof.PrepBlocks

@[expose] public section

set_option maxRecDepth 16384

noncomputable section

open Idealize.ShloMosaic Idealize.ShloMosaic.TcCoe Idealize.SL.Sem

namespace Cert.PrepIdeal.Value

open Cert.PrepIdeal Cert.PrepIdeal.Gen
open Idealize.ShloMosaic.Pipeline (Dat)
open Cert.PrepReferenceIdeal.Value

variable (m : (ℓ : Loc nD τ sig) → Buf (Elt Ideal) ℓ)

/-! ## The heads -/

/-- Stores that are blocks of one array leave that array where one of them covers. -/
theorem canon_eq {s : Shape} {e} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- An entry of the first eight heads. -/
theorem aq_at (x : FVec Ideal S16384x11264 .f32) (p : IVec S16384 32) (h : Fin 8) (r : Fin 16384) (d : Fin 128) :
    aqOf x p (ix3 h r d) = turnedAt x p r ⟨h.val, by omega⟩ d := by
  rw [← turned_at]
  pointwise [aqOf]

/-- An entry of the last eight heads, laid side by side. -/
theorem keys_at (x : FVec Ideal S16384x11264 .f32) (p : IVec S16384 32) (r : Fin 16384) (h : Fin 8) (d : Fin 128) :
    keys x p (ix2 r ⟨128 * h.val + d.val, by omega⟩) = turnedAt x p r ⟨8 + h.val, by omega⟩ d := by
  rw [← turned_at]
  pointwise [keys]

/-- The pattern of minus one. -/
theorem minus_one : Ideal.ofBits FTy.f32 3212836864#32 = -1 := by
  have h : Ideal.ofBits FTy.f32 3212836864#32 = ((-(1 : ℝ)) : EReal) := by
    simp [Ideal.ofBits, Ideal.ieee, -EReal.coe_mul, -EReal.coe_neg]; norm_num
  rw [h]
  rfl

/-- One head of a block, loaded at its columns, turned: the reference's turned head on the block's rows. -/
theorem head_at (c : Dev nD) (t : Fin cfg0.N) (h : Fin 16) (o : ℕ) (ho : o = 128 * h.val)
    (inb : ∀ a, (![0, o] : Fin 2 → ℕ) a + (![256, 128] : Fin 2 → ℕ) a ≤ S256x2048.size a) (r : Fin 256) (d : Fin 128) :
    k0_pay30 (F := Ideal) (k0_pay17 (iblk m c 5 t) (iblk m c 6 t)) (k0_pay18 (k0_pay16 (iblk m c 5 t) (iblk m c 6 t)) (iota Kind.tc S256x128 32 [1] iota_S256x128_d1_w32) 64#32) (View.ld (X0_2 m c t) (Rect.unit ![0, o] ![256, 128] inb)) (ix2 r d)
      = turnedAt (m ((c.tc : Thread nD τ).loc main_arg0)) (m ((c.tc : Thread nD τ).loc main_arg2)) (row t r) h d := by
  have hs : ∀ d : Fin 128, IntOp.cmpi CmpIPredicate.slt (BitVec.ofNat 32 d.val) 64#32 = if d.val < 64 then 1#1 else 0#1 := by decide +kernel
  subst ho
  unfold turnedAt
  pointwise [k0_pay30, k0_pay18, k0_pay17, k0_pay16, x2_at, x5_at, x6_at, angles]
  have e1 : 128 * h.val + d.val = h.val * 128 + d.val := by omega
  rw [hs d]
  by_cases hd : d.val < 64
  · have e2 : (d.val + 128 - 64) % 128 = 64 + d.val := by omega
    have e3 : 128 * h.val + (64 + d.val) = h.val * 128 + (64 + d.val) := by omega
    simp only [e1, e2, e3, if_pos hd, dif_pos hd]
    rw [show Scalar.select 1#1 (Ideal.ofBits FTy.f32 3212836864#32) (1 : EReal) = -1 from minus_one, neg_mul, one_mul, mul_neg, neg_mul]
  · have e2 : (d.val + 128 - 64) % 128 = d.val - 64 := by omega
    have e3 : 128 * h.val + (d.val - 64) = h.val * 128 + (d.val - 64) := by omega
    simp only [e1, e2, e3, if_neg hd, dif_neg hd]
    rw [show Scalar.select 0#1 (Ideal.ofBits FTy.f32 3212836864#32) (1 : EReal) = 1 from rfl, one_mul]

/-- The first eight heads' block. -/
def aqBlk (c : Dev nD) (t : Fin cfg0.N) : FVec Ideal S8x256x128 .f32 := fun y => aqOf (m ((c.tc : Thread nD τ).loc main_arg0)) (m ((c.tc : Thread nD τ).loc main_arg2)) (ix3 (y 0) (row t (y 1)) (y 2))

/-- A head stored as a plane of its block is the reference's. -/
theorem aq_piece (c : Dev nD) (t : Fin cfg0.N) (h : Fin 8) (o k : ℕ) (ho : o = 128 * h.val) (hk : k = h.val)
    (inb : ∀ a, (![0, o] : Fin 2 → ℕ) a + (![256, 128] : Fin 2 → ℕ) a ≤ S256x2048.size a)
    (inb' : ∀ a, (![k, 0, 0] : Fin 3 → ℕ) a + (![1, 256, 128] : Fin 3 → ℕ) a ≤ S8x256x128.size a) (x : S1x256x128.Idx) :
    shapeCast S1x256x128 (k0_pay30 (F := Ideal) (k0_pay17 (iblk m c 5 t) (iblk m c 6 t)) (k0_pay18 (k0_pay16 (iblk m c 5 t) (iblk m c 6 t)) (iota Kind.tc S256x128 32 [1] iota_S256x128_d1_w32) 64#32) (View.ld (X0_2 m c t) (Rect.unit ![0, o] ![256, 128] inb))) shapeCasts_S256x128_S1x256x128 x
      = aqBlk m c t ((Rect.unit (s := S8x256x128) ![k, 0, 0] ![1, 256, 128] inb').emb x) := by
  subst hk
  have he : (Rect.unit (s := S8x256x128) ![h.val, 0, 0] ![1, 256, 128] inb').emb x = ix3 h (x 1) (x 2) := by
    funext a
    refine Fin.ext ?_
    have h0 : (x 0).val < 1 := (x 0).isLt
    match a with
    | ⟨0, _⟩ => show h.val + 1 * (x 0).val = h.val; omega
    | ⟨1, _⟩ => show 0 + 1 * (x 1).val = (x 1).val; omega
    | ⟨2, _⟩ => show 0 + 1 * (x 2).val = (x 2).val; omega
  rw [he]
  obtain ⟨r, d, rfl⟩ : ∃ (r : Fin 256) (d : Fin 128), x = ix3 0 r d :=
    ⟨x 1, x 2, (eq_ix3 x).trans (by rw [show x 0 = (0 : Fin 1) from Fin.eq_zero _])⟩
  refine Eq.trans ?_ ((head_at m c t ⟨h.val, by omega⟩ o ho inb r d).trans (aq_at _ _ h (row t r) d).symm)
  pointwise []

/-- What the body leaves in the first eight heads' block. -/
theorem aq_blk (c : Dev nD) (t : Fin cfg0.N) : (outsAt0 m c t).2.2.1 = aqBlk m c t := by
  funext y
  unfold outsAt0
  unfold Gen.out0_A_12
  frame_out
  refine canon_eq _ _ ?_ y (View.cover_of_tiledL _ ![1, 256, 128] (by sl_kernel_rfl) y)
  refine ⟨fun x => ?_, fun x => ?_, fun x => ?_, fun x => ?_, fun x => ?_, fun x => ?_, fun x => ?_, fun x => ?_, trivial⟩
  · exact aq_piece m c t 7 896 7 rfl rfl inb_S256x2048_S256x128_0_896 inb_S8x256x128_S1x256x128_7_0_0 x
  · exact aq_piece m c t 6 768 6 rfl rfl inb_S256x2048_S256x128_0_768 inb_S8x256x128_S1x256x128_6_0_0 x
  · exact aq_piece m c t 5 640 5 rfl rfl inb_S256x2048_S256x128_0_640 inb_S8x256x128_S1x256x128_5_0_0 x
  · exact aq_piece m c t 4 512 4 rfl rfl inb_S256x2048_S256x128_0_512 inb_S8x256x128_S1x256x128_4_0_0 x
  · exact aq_piece m c t 3 384 3 rfl rfl inb_S256x2048_S256x128_0_384 inb_S8x256x128_S1x256x128_3_0_0 x
  · exact aq_piece m c t 2 256 2 rfl rfl inb_S256x2048_S256x128_0_256 inb_S8x256x128_S1x256x128_2_0_0 x
  · exact aq_piece m c t 1 128 1 rfl rfl inb_S256x2048_S256x128_0_128 inb_S8x256x128_S1x256x128_1_0_0 x
  · exact aq_piece m c t 0 0 0 rfl rfl inb_S256x2048_S256x128_0_0 inb_S8x256x128_S1x256x128_0_0_0 x

/-- The array of the first eight heads the launch leaves is the reference's. -/
theorem final12 (c : Dev nD) : (dats m 0 c).arrAt 12 cfg0.N = aqOf (m ((c.tc : Thread nD τ).loc main_arg0)) (m ((c.tc : Thread nD τ).loc main_arg2)) := by
  refine (dats m 0 c).arrAt_eq_of_covers 12 _ (by decide +kernel) fun t _ y => ?_
  have hy : ((View.whole main_v19_2).slice (win0_12.rect t)).emb y = ix3 (y 0) (row t (y 1)) (y 2) := by
    funext a
    refine Fin.ext ((Pipeline.Window.rect_emb_val win0_12 t y a).trans ?_)
    match a with
    | ⟨0, _⟩ => rw [show win0_12.index t ⟨0, _⟩ = 0 from congrFun (idx_val t).2.2.2.2.2.2.2.2.2.2.2.2.1 0]; exact Nat.zero_add _
    | ⟨1, _⟩ => rw [show win0_12.index t ⟨1, _⟩ = t.val from congrFun (idx_val t).2.2.2.2.2.2.2.2.2.2.2.2.1 1]; exact congrArg (· + (y 1).val) (Nat.mul_comm _ _)
    | ⟨2, _⟩ => rw [show win0_12.index t ⟨2, _⟩ = 0 from congrFun (idx_val t).2.2.2.2.2.2.2.2.2.2.2.2.1 2]; exact Nat.zero_add _
  blk_simp
  rw [after0_12, aq_blk, hy]
  rfl

/-! ## The keys -/

/-- The keys' block. -/
def akBlk (c : Dev nD) (t : Fin cfg0.N) : FVec Ideal S256x1024 .bf16 := fun y => akOf (m ((c.tc : Thread nD τ).loc main_arg0)) (m ((c.tc : Thread nD τ).loc main_arg2)) (ix2 (row t (y 0)) (y 1))

/-- A head stored at its columns of the keys' block is the reference's. -/
theorem ak_piece (c : Dev nD) (t : Fin cfg0.N) (h : Fin 8) (o k : ℕ) (ho : o = 128 * (8 + h.val)) (hk : k = 128 * h.val)
    (inb : ∀ a, (![0, o] : Fin 2 → ℕ) a + (![256, 128] : Fin 2 → ℕ) a ≤ S256x2048.size a)
    (inb' : ∀ a, (![0, k] : Fin 2 → ℕ) a + (![256, 128] : Fin 2 → ℕ) a ≤ S256x1024.size a) (x : S256x128.Idx) :
    truncf .bf16 (k0_pay30 (F := Ideal) (k0_pay17 (iblk m c 5 t) (iblk m c 6 t)) (k0_pay18 (k0_pay16 (iblk m c 5 t) (iblk m c 6 t)) (iota Kind.tc S256x128 32 [1] iota_S256x128_d1_w32) 64#32) (View.ld (X0_2 m c t) (Rect.unit ![0, o] ![256, 128] inb))) bitsLt_bf16_f32 x
      = akBlk m c t ((Rect.unit (s := S256x1024) ![0, k] ![256, 128] inb').emb x) := by
  subst hk
  obtain ⟨r, d, rfl⟩ : ∃ (r : Fin 256) (d : Fin 128), x = ix2 r d := ⟨x 0, x 1, eq_ix2 x⟩
  have he : (Rect.unit (s := S256x1024) ![0, 128 * h.val] ![256, 128] inb').emb (ix2 r d) = ix2 r ⟨128 * h.val + d.val, by omega⟩ := by
    funext a
    refine Fin.ext ?_
    match a with
    | ⟨0, _⟩ => show 0 + 1 * r.val = r.val; omega
    | ⟨1, _⟩ => show 128 * h.val + 1 * d.val = 128 * h.val + d.val; omega
  rw [he]
  exact (head_at m c t ⟨8 + h.val, by omega⟩ o ho inb r d).trans (keys_at _ _ (row t r) h d).symm

/-- What the body leaves in the keys' block. -/
theorem ak_blk (c : Dev nD) (t : Fin cfg0.N) : (outsAt0 m c t).2.2.2.1 = akBlk m c t := by
  funext y
  unfold outsAt0
  unfold Gen.out0_A_13
  frame_out
  refine canon_eq _ _ ?_ y (View.cover_of_tiledL _ ![256, 128] (by sl_kernel_rfl) y)
  refine ⟨fun x => ?_, fun x => ?_, fun x => ?_, fun x => ?_, fun x => ?_, fun x => ?_, fun x => ?_, fun x => ?_, trivial⟩
  · exact ak_piece m c t 7 1920 896 rfl rfl inb_S256x2048_S256x128_0_1920 inb_S256x1024_S256x128_0_896 x
  · exact ak_piece m c t 6 1792 768 rfl rfl inb_S256x2048_S256x128_0_1792 inb_S256x1024_S256x128_0_768 x
  · exact ak_piece m c t 5 1664 640 rfl rfl inb_S256x2048_S256x128_0_1664 inb_S256x1024_S256x128_0_640 x
  · exact ak_piece m c t 4 1536 512 rfl rfl inb_S256x2048_S256x128_0_1536 inb_S256x1024_S256x128_0_512 x
  · exact ak_piece m c t 3 1408 384 rfl rfl inb_S256x2048_S256x128_0_1408 inb_S256x1024_S256x128_0_384 x
  · exact ak_piece m c t 2 1280 256 rfl rfl inb_S256x2048_S256x128_0_1280 inb_S256x1024_S256x128_0_256 x
  · exact ak_piece m c t 1 1152 128 rfl rfl inb_S256x2048_S256x128_0_1152 inb_S256x1024_S256x128_0_128 x
  · exact ak_piece m c t 0 1024 0 rfl rfl inb_S256x2048_S256x128_0_1024 inb_S256x1024_S256x128_0_0 x

/-- The keys the launch leaves are the reference's. -/
theorem final13 (c : Dev nD) : (dats m 0 c).arrAt 13 cfg0.N = akOf (m ((c.tc : Thread nD τ).loc main_arg0)) (m ((c.tc : Thread nD τ).loc main_arg2)) := by
  refine (dats m 0 c).arrAt_eq_of_covers 13 _ (by decide +kernel) fun t _ y => ?_
  have hy : ((View.whole main_v19_3).slice (win0_13.rect t)).emb y = ix2 (row t (y 0)) (y 1) := by
    funext a
    refine Fin.ext ((Pipeline.Window.rect_emb_val win0_13 t y a).trans ?_)
    match a with
    | ⟨0, _⟩ => rw [show win0_13.index t ⟨0, _⟩ = t.val from congrFun (idx_val t).2.2.2.2.2.2.2.2.2.2.2.2.2.1 0]; exact congrArg (· + (y 0).val) (Nat.mul_comm _ _)
    | ⟨1, _⟩ => rw [show win0_13.index t ⟨1, _⟩ = 0 from congrFun (idx_val t).2.2.2.2.2.2.2.2.2.2.2.2.2.1 1]; exact Nat.zero_add _
  blk_simp
  rw [after0_13, ak_blk, hy]
  rfl

/-! ## The means of the keys -/

/-- The block's number, of the sixty-four. -/
def blkNo (t : Fin cfg0.N) : Fin 64 := ⟨t.val, t.isLt⟩

/-- The block of the means. -/
def kmBlk (c : Dev nD) (t : Fin cfg0.N) : FVec Ideal S1x1x1024 .f32 := fun y => kmeanOf (m ((c.tc : Thread nD τ).loc main_arg0)) (m ((c.tc : Thread nD τ).loc main_arg2)) (ix3 (blkNo t) 0 (y 2))

/-- A head's mean is the reference's. -/
theorem km_piece (c : Dev nD) (t : Fin cfg0.N) (h : Fin 8) (o k : ℕ) (ho : o = 128 * (8 + h.val)) (hk : k = 128 * h.val)
    (inb : ∀ a, (![0, o] : Fin 2 → ℕ) a + (![256, 128] : Fin 2 → ℕ) a ≤ S256x2048.size a)
    (inb' : ∀ a, (![0, 0, k] : Fin 3 → ℕ) a + (![1, 1, 128] : Fin 3 → ℕ) a ≤ S1x1x1024.size a) (x : S1x1x128.Idx) :
    k0_pay32 (F := Ideal) (k0_pay17 (iblk m c 5 t) (iblk m c 6 t)) (k0_pay18 (k0_pay16 (iblk m c 5 t) (iblk m c 6 t)) (iota Kind.tc S256x128 32 [1] iota_S256x128_d1_w32) 64#32) (View.ld (X0_2 m c t) (Rect.unit ![0, o] ![256, 128] inb)) x
      = kmBlk m c t ((Rect.unit (s := S1x1x1024) ![0, 0, k] ![1, 1, 128] inb').emb x) := by
  subst hk
  have hh := fun r d => (head_at m c t ⟨8 + h.val, by omega⟩ o ho inb r d).trans (keys_at _ _ (row t r) h d).symm
  have hk : ∀ d : Fin 128, kmeanOf (m ((c.tc : Thread nD τ).loc main_arg0)) (m ((c.tc : Thread nD τ).loc main_arg2)) (ix3 (blkNo t) 0 ⟨128 * h.val + d.val, by omega⟩)
      = Ideal.div (∑ r : Fin 256, keys (m ((c.tc : Thread nD τ).loc main_arg0)) (m ((c.tc : Thread nD τ).loc main_arg2)) (ix2 (row t r) ⟨128 * h.val + d.val, by omega⟩)) (Ideal.ofBits .f32 0x43800000#32) := by
    intro d
    pointwise [kmeanOf]
    refine congrArg (Ideal.div · _) (Finset.sum_congr rfl fun r _ => congrArg _ (congrArg₂ ix2 (Fin.ext ?_) rfl))
    show t.val * 256 + r.val = 256 * t.val + r.val
    omega
  obtain ⟨d, rfl⟩ : ∃ d : Fin 128, x = ix3 0 0 d := ⟨x 2, (eq_ix3 x).trans (by rw [show x 0 = (0 : Fin 1) from Fin.eq_zero _, show x 1 = (0 : Fin 1) from Fin.eq_zero _])⟩
  have he : ((Rect.unit (s := S1x1x1024) ![0, 0, 128 * h.val] ![1, 1, 128] inb').emb (ix3 0 0 d)) 2 = (⟨128 * h.val + d.val, by omega⟩ : Fin 1024) :=
    Fin.ext (by show 128 * h.val + 1 * d.val = 128 * h.val + d.val; omega)
  unfold kmBlk
  rw [he, hk]
  simp only [← hh]
  pointwise [k0_pay32]

/-- What the body leaves in the block of the means. -/
theorem km_blk (c : Dev nD) (t : Fin cfg0.N) : (outsAt0 m c t).2.2.2.2.2.1 = kmBlk m c t := by
  funext y
  unfold outsAt0
  unfold Gen.out0_A_15
  frame_out
  refine canon_eq _ _ ?_ y (View.cover_of_tiledL _ ![1, 1, 128] (by sl_kernel_rfl) y)
  refine ⟨fun x => ?_, fun x => ?_, fun x => ?_, fun x => ?_, fun x => ?_, fun x => ?_, fun x => ?_, fun x => ?_, trivial⟩
  · exact km_piece m c t 7 1920 896 rfl rfl inb_S256x2048_S256x128_0_1920 inb_S1x1x1024_S1x1x128_0_0_896 x
  · exact km_piece m c t 6 1792 768 rfl rfl inb_S256x2048_S256x128_0_1792 inb_S1x1x1024_S1x1x128_0_0_768 x
  · exact km_piece m c t 5 1664 640 rfl rfl inb_S256x2048_S256x128_0_1664 inb_S1x1x1024_S1x1x128_0_0_640 x
  · exact km_piece m c t 4 1536 512 rfl rfl inb_S256x2048_S256x128_0_1536 inb_S1x1x1024_S1x1x128_0_0_512 x
  · exact km_piece m c t 3 1408 384 rfl rfl inb_S256x2048_S256x128_0_1408 inb_S1x1x1024_S1x1x128_0_0_384 x
  · exact km_piece m c t 2 1280 256 rfl rfl inb_S256x2048_S256x128_0_1280 inb_S1x1x1024_S1x1x128_0_0_256 x
  · exact km_piece m c t 1 1152 128 rfl rfl inb_S256x2048_S256x128_0_1152 inb_S1x1x1024_S1x1x128_0_0_128 x
  · exact km_piece m c t 0 1024 0 rfl rfl inb_S256x2048_S256x128_0_1024 inb_S1x1x1024_S1x1x128_0_0_0 x

/-- The means the launch leaves are the reference's. -/
theorem final15 (c : Dev nD) : (dats m 0 c).arrAt 15 cfg0.N = kmeanOf (m ((c.tc : Thread nD τ).loc main_arg0)) (m ((c.tc : Thread nD τ).loc main_arg2)) := by
  refine (dats m 0 c).arrAt_eq_of_covers 15 _ (by decide +kernel) fun t _ y => ?_
  have hy : ((View.whole main_v19_5).slice (win0_15.rect t)).emb y = ix3 (blkNo t) 0 (y 2) := by
    funext a
    refine Fin.ext ((Pipeline.Window.rect_emb_val win0_15 t y a).trans ?_)
    match a with
    | ⟨0, _⟩ => rw [show win0_15.index t ⟨0, _⟩ = t.val from congrFun (idx_val t).2.2.2.2.2.2.2.2.2.2.2.2.2.2.2.1 0]; have : (y 0).val < 1 := (y 0).isLt; show t.val * 1 + (y 0).val = t.val; omega
    | ⟨1, _⟩ => rw [show win0_15.index t ⟨1, _⟩ = 0 from congrFun (idx_val t).2.2.2.2.2.2.2.2.2.2.2.2.2.2.2.1 1]; have : (y 1).val < 1 := (y 1).isLt; show 0 + (y 1).val = 0; omega
    | ⟨2, _⟩ => rw [show win0_15.index t ⟨2, _⟩ = 0 from congrFun (idx_val t).2.2.2.2.2.2.2.2.2.2.2.2.2.2.2.1 2]; exact Nat.zero_add _
  blk_simp
  rw [after0_15, km_blk, hy]
  rfl

/-! ## The values -/

/-- The values' block, transposed. -/
def avBlk (c : Dev nD) (t : Fin cfg0.N) : FVec Ideal S1024x256 .bf16 := fun y => avTOf (m ((c.tc : Thread nD τ).loc main_arg0)) (ix2 (y 0) (row t (y 1)))

/-- Half the values' columns, transposed, are the reference's. -/
theorem av_piece (c : Dev nD) (t : Fin cfg0.N) (o : ℕ) (ho : o + 512 ≤ 1024)
    (inb : ∀ a, (![0, o] : Fin 2 → ℕ) a + (![256, 512] : Fin 2 → ℕ) a ≤ S256x1024.size a)
    (inb' : ∀ a, (![o, 0] : Fin 2 → ℕ) a + (![512, 256] : Fin 2 → ℕ) a ≤ S1024x256.size a) (x : S512x256.Idx) :
    k0_pay57 (F := Ideal) (View.ld (iblk m c 3 t) (Rect.unit ![0, o] ![256, 512] inb)) x
      = avBlk m c t ((Rect.unit (s := S1024x256) ![o, 0] ![512, 256] inb').emb x) := by
  obtain ⟨d, r, rfl⟩ : ∃ (d : Fin 512) (r : Fin 256), x = ix2 d r := ⟨x 0, x 1, eq_ix2 x⟩
  have he : (Rect.unit (s := S1024x256) ![o, 0] ![512, 256] inb').emb (ix2 d r) = ix2 ⟨o + d.val, by omega⟩ r := by
    funext a
    refine Fin.ext ?_
    match a with
    | ⟨0, _⟩ => show o + 1 * d.val = o + d.val; omega
    | ⟨1, _⟩ => show 0 + 1 * r.val = r.val; omega
  rw [he]
  show _ = avTOf (m ((c.tc : Thread nD τ).loc main_arg0)) (ix2 ⟨o + d.val, by omega⟩ (row t r))
  pointwise [k0_pay57, avTOf, x3_at]

/-- What the body leaves in the values' block. -/
theorem av_blk (c : Dev nD) (t : Fin cfg0.N) : (outsAt0 m c t).2.2.2.2.1 = avBlk m c t := by
  funext y
  unfold outsAt0
  unfold Gen.out0_A_14
  frame_out
  refine canon_eq _ _ ?_ y (View.cover_of_tiledL _ ![512, 256] (by sl_kernel_rfl) y)
  refine ⟨fun x => ?_, fun x => ?_, trivial⟩
  · exact av_piece m c t 512 (by omega) inb_S256x1024_S256x512_0_512 inb_S1024x256_S512x256_512_0 x
  · exact av_piece m c t 0 (by omega) inb_S256x1024_S256x512_0_0 inb_S1024x256_S512x256_0_0 x

/-- The values the launch leaves, transposed, are the reference's. -/
theorem final14 (c : Dev nD) : (dats m 0 c).arrAt 14 cfg0.N = avTOf (m ((c.tc : Thread nD τ).loc main_arg0)) := by
  refine (dats m 0 c).arrAt_eq_of_covers 14 _ (by decide +kernel) fun t _ y => ?_
  have hy : ((View.whole main_v19_4).slice (win0_14.rect t)).emb y = ix2 (y 0) (row t (y 1)) := by
    funext a
    refine Fin.ext ((Pipeline.Window.rect_emb_val win0_14 t y a).trans ?_)
    match a with
    | ⟨0, _⟩ => rw [show win0_14.index t ⟨0, _⟩ = 0 from congrFun (idx_val t).2.2.2.2.2.2.2.2.2.2.2.2.2.2.1 0]; exact Nat.zero_add _
    | ⟨1, _⟩ => rw [show win0_14.index t ⟨1, _⟩ = t.val from congrFun (idx_val t).2.2.2.2.2.2.2.2.2.2.2.2.2.2.1 1]; exact congrArg (· + (y 1).val) (Nat.mul_comm _ _)
  blk_simp
  rw [after0_14, av_blk, hy]
  rfl

end Cert.PrepIdeal.Value

end
-- ==== Proof.PrepConv.lean ====
/- What the two branches read: the convolution and its unit, at exact reals. -/
module

public import proofs.«01_k».proof.Proof.PrepHeads

@[expose] public section

set_option maxRecDepth 16384

noncomputable section

open Idealize.ShloMosaic Idealize.ShloMosaic.TcCoe Idealize.SL.Sem

namespace Cert.PrepIdeal.Value

open Cert.PrepIdeal Cert.PrepIdeal.Gen
open Idealize.ShloMosaic.Pipeline (Dat)
open Cert.PrepReferenceIdeal.Value

variable (m : (ℓ : Loc nD τ sig) → Buf (Elt Ideal) ℓ)

/-! ## The convolution -/

/-- The row `k` places before row `r`, round the 264 rows. -/
def back (k : ℕ) (r : Fin 264) : Fin 264 := ⟨(r.val + 264 - k) % 264, Nat.mod_lt _ (by norm_num)⟩

/-- A turn by one row. -/
theorem turn_at (x : FVec Ideal S264x512 .f32) (r : Fin 264) (d : Fin 512) :
    dynamicRotate 0 1#32 none x rotates_S264x512_d0 (ix2 r d) = x (ix2 (back 1 r) d) := by
  pointwise []
  rfl

/-- Turning back twice is turning back once by the sum. -/
theorem back_back (j k : ℕ) (hj : j ≤ 4) (hk : k ≤ 4) (r : Fin 264) : back j (back k r) = back (j + k) r :=
  Fin.ext (by show ((r.val + 264 - k) % 264 + 264 - j) % 264 = (r.val + 264 - (j + k)) % 264; omega)

/-- The four taps, each turned once more than the next. -/
def taps (e : FVec Ideal S264x512 .f32) (w0 w1 w2 w3 : FVec Ideal S1x512 .f32) : FVec Ideal S264x512 .f32 :=
  addf (dynamicRotate 0 1#32 none (addf (dynamicRotate 0 1#32 none (addf (dynamicRotate 0 1#32 none (mulf (broadcastTo S264x512 w0 broadcasts_S1x512_S264x512) e) rotates_S264x512_d0)
    (mulf (broadcastTo S264x512 w1 broadcasts_S1x512_S264x512) e)) rotates_S264x512_d0)
    (mulf (broadcastTo S264x512 w2 broadcasts_S1x512_S264x512) e)) rotates_S264x512_d0)
    (mulf (broadcastTo S264x512 w3 broadcasts_S1x512_S264x512) e)

/-- An entry of the taps. -/
theorem taps_at (e : FVec Ideal S264x512 .f32) (w0 w1 w2 w3 : FVec Ideal S1x512 .f32) (r : Fin 264) (d : Fin 512) :
    taps e w0 w1 w2 w3 (ix2 r d) = w0 (ix2 0 d) * e (ix2 (back 3 r) d) + w1 (ix2 0 d) * e (ix2 (back 2 r) d)
      + w2 (ix2 0 d) * e (ix2 (back 1 r) d) + w3 (ix2 0 d) * e (ix2 r d) := by
  unfold taps
  have e2 : (⟨((r.val + 264 - 1) % 264 + 264 - 1) % 264, Nat.mod_lt _ (by norm_num)⟩ : Fin 264) = back 2 r := back_back 1 1 (by omega) (by omega) r
  have e3 : (⟨(((r.val + 264 - 1) % 264 + 264 - 1) % 264 + 264 - 1) % 264, Nat.mod_lt _ (by norm_num)⟩ : Fin 264) = back 3 r :=
    (congrArg (back 1) e2).trans (back_back 1 2 (by omega) (by omega) r)
  pointwise []
  rw [e3, e2]
  rfl

/-- The taps on the block's own rows, and the bias. -/
def convBlk (e : FVec Ideal S264x512 .f32) (w0 w1 w2 w3 b : FVec Ideal S1x512 .f32) : FVec Ideal S256x512 .f32 :=
  addf (extractStridedSlice S256x512 ![0, 0] (taps e w0 w1 w2 w3) slices_S264x512_o0_0_S256x512)
    (broadcastTo S256x512 (shapeCast S1x512 b shapeCasts_S1x512_S1x512) broadcasts_S1x512_S256x512)

/-- The unit `y / (1 + exp (-y))`, as the kernel spells it. -/
def unitBlk (y : FVec Ideal S256x512 .f32) : FVec Ideal S256x512 .f32 :=
  mulf y (divf (broadcast S256x512 (Scalar.ofBits .f32 0x3F800000#32)) (addf (broadcast S256x512 (Scalar.ofBits .f32 0x3F800000#32))
    (exp (subf (broadcast S256x512 (Scalar.ofBits .f32 0x00000000#32)) y))))

/-- An entry of the unit. -/
theorem unitBlk_at (y : FVec Ideal S256x512 .f32) (r : Fin 256) (d : Fin 512) : unitBlk y (ix2 r d) = unitAt (y (ix2 r d)) := by
  pointwise [unitBlk]
  rw [zero_sub]
  rfl

/-- The block's rows with the eight rows before it after them: row `r` turned back by `k` is `k` rows before it in the array. -/
theorem ext_at (c : Dev nD) (t : Fin cfg0.N) (o : ℕ) (ho : o + 512 ≤ 2048) (inbh : ∀ a, (![0, o] : Fin 2 → ℕ) a + (![16, 512] : Fin 2 → ℕ) a ≤ S16x2048.size a) (inbx : ∀ a, (![0, o] : Fin 2 → ℕ) a + (![256, 512] : Fin 2 → ℕ) a ≤ S256x2048.size a) (k : ℕ) (hk : k ≤ 3) (r : Fin 264) (hr : r.val < 256) (d : Fin 512) :
    (k0_pay9 (F := Ideal) (BitVec.ofNat 32 (grid0.coords t 0).val) (View.ld (X0_1 m c t) (Rect.unit ![0, o] ![16, 512] inbh)) (View.ld (X0_0 m c t) (Rect.unit ![0, o] ![256, 512] inbx))) (ix2 (back k r) d) = before (m ((c.tc : Thread nD τ).loc main_arg0)) k (row t ⟨r.val, hr⟩) ⟨o + d.val, by omega⟩ := by
  have hc : ∀ t : Fin cfg0.N, Scalar.cmpi .eq (BitVec.ofNat 32 (grid0.coords t 0).val) 0#32 = if t.val = 0 then 1#1 else 0#1 :=
    (by decide +kernel : ∀ t : Fin grid0.N, _)
  have hb : (back k r).val = if k ≤ r.val then r.val - k else r.val + 264 - k := by
    show (r.val + 264 - k) % 264 = _
    split_ifs <;> omega
  generalize back k r = q at hb
  pointwise [k0_pay9]
  rw [hc t]
  unfold before
  by_cases hkr : k ≤ r.val
  · rw [if_pos hkr] at hb
    rw [dif_pos (show q.val < 256 by omega), x0_at, dif_pos (show k ≤ (row t ⟨r.val, hr⟩).val by show k ≤ 256 * t.val + r.val; omega)]
    refine congrArg _ (congrArg₂ ix2 (Fin.ext ?_) rfl)
    show 256 * t.val + q.val = 256 * t.val + r.val - k
    omega
  · rw [if_neg hkr] at hb
    rw [dif_neg (show ¬ q.val < 256 by omega)]
    by_cases ht : t.val = 0
    · rw [if_pos ht, dif_neg (show ¬ k ≤ (row t ⟨r.val, hr⟩).val by show ¬ k ≤ 256 * t.val + r.val; omega)]
      rfl
    · rw [if_neg ht, dif_pos (show k ≤ (row t ⟨r.val, hr⟩).val by show k ≤ 256 * t.val + r.val; omega)]
      refine (x1_at m c t ht _ _).trans (congrArg _ (congrArg₂ ix2 (Fin.ext ?_) rfl))
      show 256 * t.val - 16 + (8 + (q.val - 256)) = 256 * t.val + r.val - k
      omega

/-- A block of the convolution. -/
theorem conv_blk (c : Dev nD) (t : Fin cfg0.N) (o : ℕ) (ho : o + 512 ≤ 2048) (inbh : ∀ a, (![0, o] : Fin 2 → ℕ) a + (![16, 512] : Fin 2 → ℕ) a ≤ S16x2048.size a) (inbx : ∀ a, (![0, o] : Fin 2 → ℕ) a + (![256, 512] : Fin 2 → ℕ) a ≤ S256x2048.size a) (inb0 : ∀ a, (![0, o] : Fin 2 → ℕ) a + (![1, 512] : Fin 2 → ℕ) a ≤ S4x2048.size a) (inb1 : ∀ a, (![1, o] : Fin 2 → ℕ) a + (![1, 512] : Fin 2 → ℕ) a ≤ S4x2048.size a) (inb2 : ∀ a, (![2, o] : Fin 2 → ℕ) a + (![1, 512] : Fin 2 → ℕ) a ≤ S4x2048.size a) (inb3 : ∀ a, (![3, o] : Fin 2 → ℕ) a + (![1, 512] : Fin 2 → ℕ) a ≤ S4x2048.size a) (inbb : ∀ a, (![0, o] : Fin 2 → ℕ) a + (![1, 512] : Fin 2 → ℕ) a ≤ S1x2048.size a) (r : Fin 256) (d : Fin 512) :
    convBlk (k0_pay9 (F := Ideal) (BitVec.ofNat 32 (grid0.coords t 0).val) (View.ld (X0_1 m c t) (Rect.unit ![0, o] ![16, 512] inbh)) (View.ld (X0_0 m c t) (Rect.unit ![0, o] ![256, 512] inbx))) (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) (View.ld (iblk m c 8 t) (Rect.unit ![0, o] ![1, 512] inbb)) (ix2 r d) = convAt (m ((c.tc : Thread nD τ).loc main_arg0)) (m ((c.tc : Thread nD τ).loc main_arg3)) (m ((c.tc : Thread nD τ).loc main_arg4)) (row t r) ⟨o + d.val, by omega⟩ := by
  have h0 := fun k hk => ext_at m c t o ho inbh inbx k hk ⟨r.val, by omega⟩ r.isLt d
  have hz : back 0 (⟨r.val, by omega⟩ : Fin 264) = ⟨r.val, by omega⟩ := Fin.ext (by show (r.val + 264 - 0) % 264 = r.val; have := r.isLt; omega)
  unfold convAt
  rw [← h0 3 (by omega), ← h0 2 (by omega), ← h0 1 (by omega), ← h0 0 (by omega), hz]
  generalize (k0_pay9 (F := Ideal) (BitVec.ofNat 32 (grid0.coords t 0).val) (View.ld (X0_1 m c t) (Rect.unit ![0, o] ![16, 512] inbh)) (View.ld (X0_0 m c t) (Rect.unit ![0, o] ![256, 512] inbx))) = e
  have ht := taps_at e (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) ⟨r.val, by omega⟩ d
  unfold convBlk
  generalize taps e (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) = T at ht
  pointwise [x7_at] at ht
  pointwise [x8_at]
  exact congrArg (· + _) ht

/-- The unit of a half of the convolved columns is the reference's. -/
theorem unit_blk (c : Dev nD) (t : Fin cfg0.N) (o : ℕ) (ho : o + 512 ≤ 2048) (inbh : ∀ a, (![0, o] : Fin 2 → ℕ) a + (![16, 512] : Fin 2 → ℕ) a ≤ S16x2048.size a) (inbx : ∀ a, (![0, o] : Fin 2 → ℕ) a + (![256, 512] : Fin 2 → ℕ) a ≤ S256x2048.size a) (inb0 : ∀ a, (![0, o] : Fin 2 → ℕ) a + (![1, 512] : Fin 2 → ℕ) a ≤ S4x2048.size a) (inb1 : ∀ a, (![1, o] : Fin 2 → ℕ) a + (![1, 512] : Fin 2 → ℕ) a ≤ S4x2048.size a) (inb2 : ∀ a, (![2, o] : Fin 2 → ℕ) a + (![1, 512] : Fin 2 → ℕ) a ≤ S4x2048.size a) (inb3 : ∀ a, (![3, o] : Fin 2 → ℕ) a + (![1, 512] : Fin 2 → ℕ) a ≤ S4x2048.size a) (inbb : ∀ a, (![0, o] : Fin 2 → ℕ) a + (![1, 512] : Fin 2 → ℕ) a ≤ S1x2048.size a) (r : Fin 256) (d : Fin 512) :
    unitBlk (convBlk (k0_pay9 (F := Ideal) (BitVec.ofNat 32 (grid0.coords t 0).val) (View.ld (X0_1 m c t) (Rect.unit ![0, o] ![16, 512] inbh)) (View.ld (X0_0 m c t) (Rect.unit ![0, o] ![256, 512] inbx))) (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) (View.ld (iblk m c 8 t) (Rect.unit ![0, o] ![1, 512] inbb))) (ix2 r d) = act (m ((c.tc : Thread nD τ).loc main_arg0)) (m ((c.tc : Thread nD τ).loc main_arg3)) (m ((c.tc : Thread nD τ).loc main_arg4)) (ix2 (row t r) ⟨o + d.val, by omega⟩) := by
  rw [unitBlk_at, act_at, conv_blk m c t o ho inbh inbx inb0 inb1 inb2 inb3 inbb]

/-! ## The recurrent branch's queries -/

/-- The queries' block. -/
def mqBlk (c : Dev nD) (t : Fin cfg0.N) : FVec Ideal S256x1024 .bf16 := fun y => mqOf (m ((c.tc : Thread nD τ).loc main_arg0)) (m ((c.tc : Thread nD τ).loc main_arg3)) (m ((c.tc : Thread nD τ).loc main_arg4)) (ix2 (row t (y 0)) (y 1))

/-- Half the queries' columns are the reference's. -/
theorem mq_piece (c : Dev nD) (t : Fin cfg0.N) (o : ℕ) (ho : o + 512 ≤ 1024) (inbh : ∀ a, (![0, o] : Fin 2 → ℕ) a + (![16, 512] : Fin 2 → ℕ) a ≤ S16x2048.size a) (inbx : ∀ a, (![0, o] : Fin 2 → ℕ) a + (![256, 512] : Fin 2 → ℕ) a ≤ S256x2048.size a) (inb0 : ∀ a, (![0, o] : Fin 2 → ℕ) a + (![1, 512] : Fin 2 → ℕ) a ≤ S4x2048.size a) (inb1 : ∀ a, (![1, o] : Fin 2 → ℕ) a + (![1, 512] : Fin 2 → ℕ) a ≤ S4x2048.size a) (inb2 : ∀ a, (![2, o] : Fin 2 → ℕ) a + (![1, 512] : Fin 2 → ℕ) a ≤ S4x2048.size a) (inb3 : ∀ a, (![3, o] : Fin 2 → ℕ) a + (![1, 512] : Fin 2 → ℕ) a ≤ S4x2048.size a) (inbb : ∀ a, (![0, o] : Fin 2 → ℕ) a + (![1, 512] : Fin 2 → ℕ) a ≤ S1x2048.size a)
    (inb' : ∀ a, (![0, o] : Fin 2 → ℕ) a + (![256, 512] : Fin 2 → ℕ) a ≤ S256x1024.size a) (x : S256x512.Idx) :
    truncf .bf16 (unitBlk (convBlk (k0_pay9 (F := Ideal) (BitVec.ofNat 32 (grid0.coords t 0).val) (View.ld (X0_1 m c t) (Rect.unit ![0, o] ![16, 512] inbh)) (View.ld (X0_0 m c t) (Rect.unit ![0, o] ![256, 512] inbx))) (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) (View.ld (iblk m c 8 t) (Rect.unit ![0, o] ![1, 512] inbb)))) bitsLt_bf16_f32 x
      = mqBlk m c t ((Rect.unit (s := S256x1024) ![0, o] ![256, 512] inb').emb x) := by
  obtain ⟨r, d, rfl⟩ : ∃ (r : Fin 256) (d : Fin 512), x = ix2 r d := ⟨x 0, x 1, eq_ix2 x⟩
  have he : (Rect.unit (s := S256x1024) ![0, o] ![256, 512] inb').emb (ix2 r d) = ix2 r ⟨o + d.val, by omega⟩ := by
    funext a
    refine Fin.ext ?_
    match a with
    | ⟨0, _⟩ => show 0 + 1 * r.val = r.val; omega
    | ⟨1, _⟩ => show o + 1 * d.val = o + d.val; omega
  rw [he]
  refine (unit_blk m c t o (by omega) inbh inbx inb0 inb1 inb2 inb3 inbb r d).trans ?_
  show _ = mqOf (m ((c.tc : Thread nD τ).loc main_arg0)) (m ((c.tc : Thread nD τ).loc main_arg3)) (m ((c.tc : Thread nD τ).loc main_arg4)) (ix2 (row t r) ⟨o + d.val, by omega⟩)
  pointwise [mqOf]

/-- What the body leaves in the queries' block. -/
theorem mq_blk (c : Dev nD) (t : Fin cfg0.N) : (outsAt0 m c t).1 = mqBlk m c t := by
  funext y
  unfold outsAt0
  unfold Gen.out0_A_10
  frame_out
  refine canon_eq _ _ ?_ y (View.cover_of_tiledL _ ![256, 512] (by sl_kernel_rfl) y)
  refine ⟨fun x => ?_, fun x => ?_, trivial⟩
  · exact mq_piece m c t 512 (by omega) inb_S16x2048_S16x512_0_512 inb_S256x2048_S256x512_0_512 inb_S4x2048_S1x512_0_512 inb_S4x2048_S1x512_1_512 inb_S4x2048_S1x512_2_512 inb_S4x2048_S1x512_3_512 inb_S1x2048_S1x512_0_512 inb_S256x1024_S256x512_0_512 x
  · exact mq_piece m c t 0 (by omega) inb_S16x2048_S16x512_0_0 inb_S256x2048_S256x512_0_0 inb_S4x2048_S1x512_0_0 inb_S4x2048_S1x512_1_0 inb_S4x2048_S1x512_2_0 inb_S4x2048_S1x512_3_0 inb_S1x2048_S1x512_0_0 inb_S256x1024_S256x512_0_0 x

/-- The queries the launch leaves are the reference's. -/
theorem final10 (c : Dev nD) : (dats m 0 c).arrAt 10 cfg0.N = mqOf (m ((c.tc : Thread nD τ).loc main_arg0)) (m ((c.tc : Thread nD τ).loc main_arg3)) (m ((c.tc : Thread nD τ).loc main_arg4)) := by
  refine (dats m 0 c).arrAt_eq_of_covers 10 _ (by decide +kernel) fun t _ y => ?_
  have hy : ((View.whole main_v19_0).slice (win0_10.rect t)).emb y = ix2 (row t (y 0)) (y 1) := by
    funext a
    refine Fin.ext ((Pipeline.Window.rect_emb_val win0_10 t y a).trans ?_)
    match a with
    | ⟨0, _⟩ => rw [show win0_10.index t ⟨0, _⟩ = t.val from congrFun (idx_val t).2.2.2.2.2.2.2.2.2.2.1 0]; exact congrArg (· + (y 0).val) (Nat.mul_comm _ _)
    | ⟨1, _⟩ => rw [show win0_10.index t ⟨1, _⟩ = 0 from congrFun (idx_val t).2.2.2.2.2.2.2.2.2.2.1 1]; exact Nat.zero_add _
  blk_simp
  rw [after0_10, mq_blk, hy]
  rfl

/-! ## The recurrent branch's keys -/

/-- The keys' block, transposed. -/
def mkBlk (c : Dev nD) (t : Fin cfg0.N) : FVec Ideal S1024x256 .bf16 := fun y => mkTOf (m ((c.tc : Thread nD τ).loc main_arg0)) (m ((c.tc : Thread nD τ).loc main_arg3)) (m ((c.tc : Thread nD τ).loc main_arg4)) (ix2 (y 0) (row t (y 1)))

/-- Half the keys' columns, scaled and transposed, are the reference's. -/
theorem mk_piece (c : Dev nD) (t : Fin cfg0.N) (o k : ℕ) (ho : o = 1024 + k) (hk : k + 512 ≤ 1024) (inbh : ∀ a, (![0, o] : Fin 2 → ℕ) a + (![16, 512] : Fin 2 → ℕ) a ≤ S16x2048.size a) (inbx : ∀ a, (![0, o] : Fin 2 → ℕ) a + (![256, 512] : Fin 2 → ℕ) a ≤ S256x2048.size a) (inb0 : ∀ a, (![0, o] : Fin 2 → ℕ) a + (![1, 512] : Fin 2 → ℕ) a ≤ S4x2048.size a) (inb1 : ∀ a, (![1, o] : Fin 2 → ℕ) a + (![1, 512] : Fin 2 → ℕ) a ≤ S4x2048.size a) (inb2 : ∀ a, (![2, o] : Fin 2 → ℕ) a + (![1, 512] : Fin 2 → ℕ) a ≤ S4x2048.size a) (inb3 : ∀ a, (![3, o] : Fin 2 → ℕ) a + (![1, 512] : Fin 2 → ℕ) a ≤ S4x2048.size a) (inbb : ∀ a, (![0, o] : Fin 2 → ℕ) a + (![1, 512] : Fin 2 → ℕ) a ≤ S1x2048.size a)
    (inb' : ∀ a, (![k, 0] : Fin 2 → ℕ) a + (![512, 256] : Fin 2 → ℕ) a ≤ S1024x256.size a) (x : S512x256.Idx) :
    truncf .bf16 (transpose S512x256 [1, 0] (mulf (unitBlk (convBlk (k0_pay9 (F := Ideal) (BitVec.ofNat 32 (grid0.coords t 0).val) (View.ld (X0_1 m c t) (Rect.unit ![0, o] ![16, 512] inbh)) (View.ld (X0_0 m c t) (Rect.unit ![0, o] ![256, 512] inbx))) (View.ld (iblk m c 7 t) (Rect.unit ![0, o] ![1, 512] inb0)) (View.ld (iblk m c 7 t) (Rect.unit ![1, o] ![1, 512] inb1)) (View.ld (iblk m c 7 t) (Rect.unit ![2, o] ![1, 512] inb2)) (View.ld (iblk m c 7 t) (Rect.unit ![3, o] ![1, 512] inb3)) (View.ld (iblk m c 8 t) (Rect.unit ![0, o] ![1, 512] inbb))))
      (broadcast S256x512 (Scalar.ofBits .f32 0x3D800000#32))) transposes_S256x512_p1_0_S512x256) bitsLt_bf16_f32 x
      = mkBlk m c t ((Rect.unit (s := S1024x256) ![k, 0] ![512, 256] inb').emb x) := by
  subst ho
  obtain ⟨d, r, rfl⟩ : ∃ (d : Fin 512) (r : Fin 256), x = ix2 d r := ⟨x 0, x 1, eq_ix2 x⟩
  have he : (Rect.unit (s := S1024x256) ![k, 0] ![512, 256] inb').emb (ix2 d r) = ix2 ⟨k + d.val, by omega⟩ r := by
    funext a
    refine Fin.ext ?_
    match a with
    | ⟨0, _⟩ => show k + 1 * d.val = k + d.val; omega
    | ⟨1, _⟩ => show 0 + 1 * r.val = r.val; omega
  rw [he]
  have hu := unit_blk m c t (1024 + k) (by omega) inbh inbx inb0 inb1 inb2 inb3 inbb r d
  generalize unitBlk _ = U at hu ⊢
  show _ = mkTOf (m ((c.tc : Thread nD τ).loc main_arg0)) (m ((c.tc : Thread nD τ).loc main_arg3)) (m ((c.tc : Thread nD τ).loc main_arg4)) (ix2 ⟨k + d.val, by omega⟩ (row t r))
  pointwise [mkTOf]
  rw [hu]
  exact congrArg (fun q => act (m ((c.tc : Thread nD τ).loc main_arg0)) (m ((c.tc : Thread nD τ).loc main_arg3)) (m ((c.tc : Thread nD τ).loc main_arg4)) (ix2 (row t r) q) * _) (Fin.ext (Nat.add_assoc _ _ _))

/-- What the body leaves in the keys' block. -/
theorem mk_blk (c : Dev nD) (t : Fin cfg0.N) : (outsAt0 m c t).2.1 = mkBlk m c t := by
  funext y
  unfold outsAt0
  unfold Gen.out0_A_11
  frame_out
  refine canon_eq _ _ ?_ y (View.cover_of_tiledL _ ![512, 256] (by sl_kernel_rfl) y)
  refine ⟨fun x => ?_, fun x => ?_, trivial⟩
  · exact mk_piece m c t 1536 512 rfl (by omega) inb_S16x2048_S16x512_0_1536 inb_S256x2048_S256x512_0_1536 inb_S4x2048_S1x512_0_1536 inb_S4x2048_S1x512_1_1536 inb_S4x2048_S1x512_2_1536 inb_S4x2048_S1x512_3_1536 inb_S1x2048_S1x512_0_1536 inb_S1024x256_S512x256_512_0 x
  · exact mk_piece m c t 1024 0 rfl (by omega) inb_S16x2048_S16x512_0_1024 inb_S256x2048_S256x512_0_1024 inb_S4x2048_S1x512_0_1024 inb_S4x2048_S1x512_1_1024 inb_S4x2048_S1x512_2_1024 inb_S4x2048_S1x512_3_1024 inb_S1x2048_S1x512_0_1024 inb_S1024x256_S512x256_0_0 x

/-- The keys the launch leaves, scaled and transposed, are the reference's. -/
theorem final11 (c : Dev nD) : (dats m 0 c).arrAt 11 cfg0.N = mkTOf (m ((c.tc : Thread nD τ).loc main_arg0)) (m ((c.tc : Thread nD τ).loc main_arg3)) (m ((c.tc : Thread nD τ).loc main_arg4)) := by
  refine (dats m 0 c).arrAt_eq_of_covers 11 _ (by decide +kernel) fun t _ y => ?_
  have hy : ((View.whole main_v19_1).slice (win0_11.rect t)).emb y = ix2 (y 0) (row t (y 1)) := by
    funext a
    refine Fin.ext ((Pipeline.Window.rect_emb_val win0_11 t y a).trans ?_)
    match a with
    | ⟨0, _⟩ => rw [show win0_11.index t ⟨0, _⟩ = 0 from congrFun (idx_val t).2.2.2.2.2.2.2.2.2.2.2.1 0]; exact Nat.zero_add _
    | ⟨1, _⟩ => rw [show win0_11.index t ⟨1, _⟩ = t.val from congrFun (idx_val t).2.2.2.2.2.2.2.2.2.2.2.1 1]; exact congrArg (· + (y 1).val) (Nat.mul_comm _ _)
  blk_simp
  rw [after0_11, mk_blk, hy]
  rfl

end Cert.PrepIdeal.Value

end
-- ==== Proof.PrepGates.lean ====
/- What the two branches read: the gates, at exact reals. -/
module

public import proofs.«01_k».proof.Proof.PrepBlocks

@[expose] public section

set_option maxRecDepth 16384

noncomputable section

open Idealize.ShloMosaic Idealize.ShloMosaic.TcCoe Idealize.SL.Sem

namespace Cert.PrepIdeal.Value

open Cert.PrepIdeal Cert.PrepIdeal.Gen
open Idealize.ShloMosaic.Pipeline (Dat)
open Cert.PrepReferenceIdeal.Value

variable (m : (ℓ : Loc nD τ sig) → Buf (Elt Ideal) ℓ)

/-! ## The gates -/

/-- A block of the logits. -/
theorem logits_at (c : Dev nD) (t : Fin cfg0.N) (r : Fin 256) (d : Fin 128) :
    k0_pay59 (F := Ideal) (iblk m c 4 t) (iblk m c 9 t) (ix2 r d) = logits (m ((c.tc : Thread nD τ).loc main_arg1)) (m ((c.tc : Thread nD τ).loc main_arg5)) (m ((c.tc : Thread nD τ).loc main_arg6)) (ix2 (row t r) d) := by
  pointwise [k0_pay59, logits, x4_at, x9_at]

/-- A block of the forget gates' logarithms. -/
theorem logF_at (c : Dev nD) (t : Fin cfg0.N) (r : Fin 256) (d : Fin 128) :
    k0_pay60 (F := Ideal) (iblk m c 4 t) (iblk m c 9 t) (ix2 r d) = logF (m ((c.tc : Thread nD τ).loc main_arg1)) (m ((c.tc : Thread nD τ).loc main_arg5)) (m ((c.tc : Thread nD τ).loc main_arg6)) (ix2 (row t r) d) := by
  pointwise [k0_pay60, logF]
  rw [logits_at, zero_sub]

/-- The kernel's whole quotient by 128 of a row number. -/
theorem quot_eq : ∀ a : Fin 256, Scalar.select
      (IntOp.andi (IntOp.cmpi CmpIPredicate.ne (IntOp.subi (BitVec.setWidth 32 (IntOp.cmpi CmpIPredicate.sgt (BitVec.ofNat 32 a.val) 0#32))
          (BitVec.setWidth 32 (IntOp.cmpi CmpIPredicate.slt (BitVec.ofNat 32 a.val) 0#32)))
        (Scalar.subi (Scalar.extui (Scalar.cmpi CmpIPredicate.sgt 128#32 0#32)) (Scalar.extui (Scalar.cmpi CmpIPredicate.slt 128#32 0#32))))
        (IntOp.cmpi CmpIPredicate.ne (IntOp.remsi ArithUnit.vector (BitVec.ofNat 32 a.val) 128#32) 0#32))
      (IntOp.subi (IntOp.divsi ArithUnit.vector (BitVec.ofNat 32 a.val) 128#32) 1#32)
      (IntOp.divsi ArithUnit.vector (BitVec.ofNat 32 a.val) 128#32) = BitVec.ofNat 32 (a.val / 128) := by decide +kernel

/-- The ones on and under the diagonal, within each run of 128 rows. -/
theorem tri_at (r s : Fin 256) : k0_pay64 (F := Ideal) (iota Kind.tc S256x256 32 [0] iota_S256x256_d0_w32) (iota Kind.tc S256x256 32 [1] iota_S256x256_d1_w32)
        k0_pay61 (128#32) k0_pay62 k0_pay63 (ix2 r s) = if s.val ≤ r.val ∧ r.val / 128 = s.val / 128 then (1 : EReal) else 0 := by
  have h1 : ∀ a b : Fin 256, IntOp.cmpi CmpIPredicate.sge (BitVec.ofNat 32 a.val) (BitVec.ofNat 32 b.val) = if b.val ≤ a.val then 1#1 else 0#1 := by decide +kernel
  have h2 : ∀ a b : Fin 2, IntOp.cmpi CmpIPredicate.eq (BitVec.ofNat 32 a.val) (BitVec.ofNat 32 b.val) = if a.val = b.val then 1#1 else 0#1 := by decide +kernel
  pointwise [k0_pay64, k0_pay61, k0_pay62, k0_pay63]
  rw [quot_eq r, quot_eq s, h1 r s, h2 ⟨r.val / 128, by omega⟩ ⟨s.val / 128, by omega⟩]
  have one : ∀ b : BitVec 1, (FloatOps.sitofp FTy.f32 (BitVec.setWidth 32 b) : Ideal .f32) = if b = 1#1 then (1 : EReal) else 0 := by
    intro b
    rcases (by decide : ∀ b : BitVec 1, b = 0#1 ∨ b = 1#1) b with rfl | rfl
    · show (((BitVec.setWidth 32 0#1).toInt : ℝ) : EReal) = _
      rw [show (BitVec.setWidth 32 0#1).toInt = 0 by decide, if_neg (by decide)]
      norm_num
    · show (((BitVec.setWidth 32 1#1).toInt : ℝ) : EReal) = _
      rw [show (BitVec.setWidth 32 1#1).toInt = 1 by decide, if_pos rfl]
      norm_num
  rw [one]
  by_cases ha : s.val ≤ r.val <;> by_cases hb : r.val / 128 = s.val / 128
  · rw [if_pos ha, if_pos hb, if_pos (show IntOp.andi 1#1 1#1 = 1#1 by decide), if_pos ⟨ha, hb⟩]
  · rw [if_pos ha, if_neg hb, if_neg (show ¬ IntOp.andi 1#1 0#1 = 1#1 by decide), if_neg (fun h => hb h.2)]
  · rw [if_neg ha, if_pos hb, if_neg (show ¬ IntOp.andi 0#1 1#1 = 1#1 by decide), if_neg (fun h => ha h.1)]
  · rw [if_neg ha, if_neg hb, if_neg (show ¬ IntOp.andi 0#1 0#1 = 1#1 by decide), if_neg (fun h => ha h.1)]

/-- A factor of one or zero on a number below `⊤`, its difference with itself and that difference's own: the three products
    sum to the first. -/
theorem split_eq (u : Prop) [Decidable u] (x : EReal) (hx : x ≠ ⊤) :
    (if u then (1 : EReal) else 0) * x + (if u then (1 : EReal) else 0) * (x - x) + (if u then (1 : EReal) else 0) * (x - x - (x - x)) = if u then x else 0 := by
  by_cases h : u
  · simp only [if_pos h, one_mul]
    induction x using EReal.rec with
    | bot => rfl
    | top => exact absurd rfl hx
    | coe x => norm_cast; ring_nf
  · simp only [if_neg h, zero_mul, add_zero]

/-- The forget gates' logarithms are below `⊤`. -/
theorem logF_ne_top (a : FVec Ideal S16384x128 .f32) (i f : FVec Ideal S4 .f32) (j) : logF a i f j ≠ ⊤ := by
  have hl : ∀ y : EReal, Ideal.log1p (Ideal.exp y) ≠ ⊥ := by
    intro y
    induction y using EReal.rec with
    | bot => show Ideal.log (1 + 0) ≠ ⊥; rw [add_zero]; show (if (1 : ℝ) ≤ 0 then ⊥ else ((Real.log 1 : ℝ) : EReal)) ≠ ⊥; rw [if_neg (by norm_num)]; exact EReal.coe_ne_bot _
    | top => show Ideal.log (1 + ⊤) ≠ ⊥; rw [EReal.add_top_of_ne_bot (by decide)]; exact top_ne_bot
    | coe y =>
      show Ideal.log (((1 : ℝ) : EReal) + ((Real.exp y : ℝ) : EReal)) ≠ ⊥
      rw [← EReal.coe_add]
      show (if 1 + Real.exp y ≤ 0 then ⊥ else ((Real.log (1 + Real.exp y) : ℝ) : EReal)) ≠ ⊥
      rw [if_neg (by have := Real.exp_pos y; linarith)]
      exact EReal.coe_ne_bot _
  idx_vars j
  pointwise [logF]
  generalize logits a i f _ = l
  have h1 : min l 0 ≠ ⊤ := ne_of_lt (lt_of_le_of_lt (min_le_right l 0) EReal.zero_lt_top)
  have h2 := hl (-FloatOps.absf (F := Ideal) (φ := .f32) l)
  generalize Ideal.log1p _ = w at h2 ⊢
  generalize min l 0 = u at h1 ⊢
  induction u using EReal.rec with
  | top => exact absurd rfl h1
  | bot => rw [EReal.bot_sub]; exact bot_ne_top
  | coe u =>
    induction w using EReal.rec with
    | bot => exact absurd rfl h2
    | top => show (u : EReal) + -⊤ ≠ ⊤; rw [EReal.neg_top, EReal.add_bot]; exact bot_ne_top
    | coe w => rw [← EReal.coe_sub]; exact EReal.coe_ne_top _

/-- The three products of a row of ones with the logarithms, summed over the block: the sum over the row's run of 128, as far as the row. -/
theorem cumul (L : Fin 256 → EReal) (hL : ∀ x, L x ≠ ⊤) (r : Fin 256) :
    ∑ x : Fin 256, (if x.val ≤ r.val ∧ r.val / 128 = x.val / 128 then (1 : EReal) else 0) * L x
        + ∑ x : Fin 256, (if x.val ≤ r.val ∧ r.val / 128 = x.val / 128 then (1 : EReal) else 0) * (L x - L x)
        + ∑ x : Fin 256, (if x.val ≤ r.val ∧ r.val / 128 = x.val / 128 then (1 : EReal) else 0) * (L x - L x - (L x - L x))
      = ∑ s : Fin 128, if s.val ≤ r.val % 128 then L ⟨r.val / 128 * 128 + s.val, by omega⟩ else 0 := by
  rw [← Finset.sum_add_distrib, ← Finset.sum_add_distrib]
  refine (Finset.sum_congr rfl fun x _ => split_eq _ _ (hL x)).trans ?_
  refine (Fin.sum_univ_add (a := 128) (b := 128) (fun x : Fin 256 => if x.val ≤ r.val ∧ r.val / 128 = x.val / 128 then L x else 0)).trans ?_
  by_cases hr : r.val < 128
  · refine (congrArg₂ (· + ·) (Finset.sum_congr rfl fun s _ => ?_) (Finset.sum_eq_zero fun s _ => if_neg ?_)).trans (add_zero _)
    · have hs := s.isLt
      have e : (Fin.castAdd 128 s : Fin 256) = ⟨r.val / 128 * 128 + s.val, by omega⟩ := Fin.ext (by show s.val = r.val / 128 * 128 + s.val; omega)
      rw [e]
      refine if_congr ?_ rfl rfl
      show (r.val / 128 * 128 + s.val ≤ r.val ∧ r.val / 128 = (r.val / 128 * 128 + s.val) / 128) ↔ s.val ≤ r.val % 128
      omega
    · show ¬ (128 + s.val ≤ r.val ∧ _)
      omega
  · refine (congrArg₂ (· + ·) (Finset.sum_eq_zero fun s _ => if_neg ?_) (Finset.sum_congr rfl fun s _ => ?_)).trans (zero_add _)
    · show ¬ (s.val ≤ r.val ∧ r.val / 128 = s.val / 128)
      have := s.isLt
      omega
    · have hs := s.isLt
      have e : (Fin.natAdd 128 s : Fin 256) = ⟨r.val / 128 * 128 + s.val, by omega⟩ := Fin.ext (by show 128 + s.val = r.val / 128 * 128 + s.val; omega)
      rw [e]
      refine if_congr ?_ rfl rfl
      show (r.val / 128 * 128 + s.val ≤ r.val ∧ r.val / 128 = (r.val / 128 * 128 + s.val) / 128) ↔ s.val ≤ r.val % 128
      omega

/-- The reference's sums on a block's rows. -/
theorem sums_blk (a : FVec Ideal S16384x128 .f32) (i f : FVec Ideal S4 .f32) (t : Fin cfg0.N) (r : Fin 256) (d : Fin 128) :
    sums a i f (ix2 (row t r) d) = ∑ s : Fin 128, if s.val ≤ r.val % 128 then logF a i f (ix2 (row t ⟨r.val / 128 * 128 + s.val, by omega⟩) d) else 0 := by
  rw [sums_at]
  refine Finset.sum_congr rfl fun s _ => ?_
  have e1 : (row t r).val % 128 = r.val % 128 := by show (256 * t.val + r.val) % 128 = _; omega
  rw [e1]
  refine congrArg (fun q => if s.val ≤ r.val % 128 then logF a i f (ix2 q d) else 0) (Fin.ext ?_)
  show (256 * t.val + r.val) / 128 * 128 + s.val = 256 * t.val + (r.val / 128 * 128 + s.val)
  omega

/-- A block of the gates. -/
theorem gates_at (c : Dev nD) (t : Fin cfg0.N) (r : Fin 256) (d : Fin 128) :
    k0_pay1 (F := Ideal) (k0_pay59 (iblk m c 4 t) (iblk m c 9 t)) (k0_pay60 (iblk m c 4 t) (iblk m c 9 t)) (k0_pay64 (iota Kind.tc S256x256 32 [0] iota_S256x256_d0_w32) (iota Kind.tc S256x256 32 [1] iota_S256x256_d1_w32) k0_pay61 (128#32) k0_pay62 k0_pay63) (ix2 r d) = gatesOf (m ((c.tc : Thread nD τ).loc main_arg1)) (m ((c.tc : Thread nD τ).loc main_arg5)) (m ((c.tc : Thread nD τ).loc main_arg6)) (ix2 (row t r) d) := by
  have hs := cumul (fun x => logF (m ((c.tc : Thread nD τ).loc main_arg1)) (m ((c.tc : Thread nD τ).loc main_arg5)) (m ((c.tc : Thread nD τ).loc main_arg6)) (ix2 (row t x) d)) (fun x => logF_ne_top _ _ _ _) r
  rw [← sums_blk] at hs
  pointwise [k0_pay1, gatesOf]
  simp only [logF_at, logits_at]
  refine congrArg (Scalar.select _ _) (Eq.trans ?_ hs)
  refine congrArg₂ (· + ·) (congrArg₂ (· + ·) ?_ ?_) ?_ <;> exact Finset.sum_congr rfl fun x _ => congrArg (· * _) (tri_at r x)

/-- What the body leaves in the gates' block. -/
theorem gates_blk (c : Dev nD) (t : Fin cfg0.N) : (outsAt0 m c t).2.2.2.2.2.2.1 = fun y => gatesOf (m ((c.tc : Thread nD τ).loc main_arg1)) (m ((c.tc : Thread nD τ).loc main_arg5)) (m ((c.tc : Thread nD τ).loc main_arg6)) (ix2 (row t (y 0)) (y 1)) := by
  funext y
  unfold outsAt0
  unfold Gen.out0_A_16
  frame_out
  exact (congrArg _ (eq_ix2 y)).trans (gates_at m c t (y 0) (y 1))

/-- The gates the launch leaves are the reference's. -/
theorem final16 (c : Dev nD) : (dats m 0 c).arrAt 16 cfg0.N = gatesOf (m ((c.tc : Thread nD τ).loc main_arg1)) (m ((c.tc : Thread nD τ).loc main_arg5)) (m ((c.tc : Thread nD τ).loc main_arg6)) := by
  refine (dats m 0 c).arrAt_eq_of_covers 16 _ (by decide +kernel) fun t _ y => ?_
  have hy : ((View.whole main_v19_6).slice (win0_16.rect t)).emb y = ix2 (row t (y 0)) (y 1) := by
    funext a
    refine Fin.ext ((Pipeline.Window.rect_emb_val win0_16 t y a).trans ?_)
    match a with
    | ⟨0, _⟩ => rw [show win0_16.index t ⟨0, _⟩ = t.val from congrFun (idx_val t).2.2.2.2.2.2.2.2.2.2.2.2.2.2.2.2.1 0]; exact congrArg (· + (y 0).val) (Nat.mul_comm _ _)
    | ⟨1, _⟩ => rw [show win0_16.index t ⟨1, _⟩ = 0 from congrFun (idx_val t).2.2.2.2.2.2.2.2.2.2.2.2.2.2.2.2.1 1]; exact Nat.zero_add _
  blk_simp
  rw [after0_16, gates_blk, hy]
  rfl

/-- What the body leaves in the transposed gates' block. -/
theorem gt_blk (c : Dev nD) (t : Fin cfg0.N) : (outsAt0 m c t).2.2.2.2.2.2.2 = fun y => gtOf (m ((c.tc : Thread nD τ).loc main_arg1)) (m ((c.tc : Thread nD τ).loc main_arg5)) (m ((c.tc : Thread nD τ).loc main_arg6)) (ix2 (y 0) (row t (y 1))) := by
  funext y
  unfold outsAt0
  unfold Gen.out0_A_17
  frame_out
  obtain ⟨k, r, rfl⟩ : ∃ (k : Fin 8) (r : Fin 256), y = ix2 k r := ⟨y 0, y 1, eq_ix2 y⟩
  show _ = gtOf (m ((c.tc : Thread nD τ).loc main_arg1)) (m ((c.tc : Thread nD τ).loc main_arg5)) (m ((c.tc : Thread nD τ).loc main_arg6)) (ix2 k (row t r))
  have hg := gates_at m c t r ⟨k.val, by omega⟩
  pointwise [k0_pay2, gtOf]
  exact hg

/-- The gates the launch leaves, transposed, are the reference's. -/
theorem final17 (c : Dev nD) : (dats m 0 c).arrAt 17 cfg0.N = gtOf (m ((c.tc : Thread nD τ).loc main_arg1)) (m ((c.tc : Thread nD τ).loc main_arg5)) (m ((c.tc : Thread nD τ).loc main_arg6)) := by
  refine (dats m 0 c).arrAt_eq_of_covers 17 _ (by decide +kernel) fun t _ y => ?_
  have hy : ((View.whole main_v19_7).slice (win0_17.rect t)).emb y = ix2 (y 0) (row t (y 1)) := by
    funext a
    refine Fin.ext ((Pipeline.Window.rect_emb_val win0_17 t y a).trans ?_)
    match a with
    | ⟨0, _⟩ => rw [show win0_17.index t ⟨0, _⟩ = 0 from congrFun (idx_val t).2.2.2.2.2.2.2.2.2.2.2.2.2.2.2.2.2 0]; exact Nat.zero_add _
    | ⟨1, _⟩ => rw [show win0_17.index t ⟨1, _⟩ = t.val from congrFun (idx_val t).2.2.2.2.2.2.2.2.2.2.2.2.2.2.2.2.2 1]; exact congrArg (· + (y 1).val) (Nat.mul_comm _ _)
  blk_simp
  rw [after0_17, gt_blk, hy]
  rfl

end Cert.PrepIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_in_range
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Proj
public import proofs.«01_k».proof.Proof.Gen.ProjIdeal
public import proofs.«01_k».proof.Proof.Gen.ProjIdeal.Frame
public import proofs.«01_k».proof.Proof.Gen.ProjIdeal.Skeleton
public import proofs.«01_k».proof.Proof.Gen.ProjReferenceIdeal
public import proofs.«01_k».proof.Proof.Gen.ProjReferenceIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Value
public import proofs.«01_k».proof.Proof.Gen.PrepIdeal.Skeleton
public import proofs.«01_k».proof.Proof.Gen.Prep.Skeleton
public import proofs.«01_k».proof.Proof.Gen.PrepReferenceIdeal
public import proofs.«01_k».proof.Proof.Gen.PrepReferenceIdeal.Run
public import proofs.«01_k».proof.Proof.GatherValue
public import proofs.«01_k».proof.Proof.FfnValue
public import proofs.«01_k».proof.Proof.MergeValue
public import proofs.«01_k».proof.Proof.ProjValue
public import proofs.«01_k».proof.Proof.PrepHeads
public import proofs.«01_k».proof.Proof.PrepConv
public import proofs.«01_k».proof.Proof.PrepGates
public import Idealize.ShloMosaic.Adequacy
public import Idealize.ShloMosaic.Init

@[expose] public section

noncomputable section

namespace Cert.Proof

open Idealize.ShloMosaic Idealize.ShloMosaic.TcCoe Idealize.SL.Sem
open Cert.KernelIdeal.Rows (run_main list_inRange entry_lt resultOf)

/-! ## The gather of the routed attention's rows -/

/-- The gather runs at machine floats, leaves its arguments, and leaves every semaphore at zero. -/
theorem frame_gather : Cert.quiescent_Kernel := fun m ρ h =>
  (θ_run Cert.KernelIdeal.defs _ _).mono (fun _ e => ⟨fun c => ⟨(e.1 c).1, (e.1 c).2.1⟩, e.2⟩)
    (run_main (F := Bits) m ρ fun d => list_inRange _ (entry_lt _ _ (h d)))

/-- The same at exact reals. -/
theorem frame_gatherIdeal : Cert.quiescent_KernelIdeal := fun m ρ h =>
  (θ_run Cert.KernelIdeal.defs _ _).mono (fun _ e => ⟨fun c => ⟨(e.1 c).1, (e.1 c).2.1⟩, e.2⟩)
    (run_main (F := Ideal) m ρ fun d => list_inRange _ (entry_lt _ _ (h d)))

/-- The reference of the gather runs at machine floats and leaves its arguments; it has no semaphore. -/
theorem frame_taken : Cert.quiescent_Reference := fun m ρ _ =>
  (θ_run Cert.Reference.defs _ _).mono (fun r e => ⟨fun c => (e c).2, sem_eq_zero_of_no_sems (by decide) r.2⟩)
    (Cert.Reference.Value.run (F := Bits) m ρ)

/-- The same at exact reals. -/
theorem frame_takenIdeal : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

/-- At exact reals the gather's result is the table's rows at the indices. -/
theorem algebraic_gather : Cert.algebraic_KernelIdeal_ReferenceIdeal := by
  intro m ρ m' ρ' h hagree
  have hids := fun d => entry_lt _ _ (h d)
  refine ⟨fun c => resultOf m c, (θ_run Cert.KernelIdeal.defs _ _).mono (fun _ e c => ⟨(e.1 c).2.2, (e.1 c).1, (e.1 c).2.1⟩)
    (run_main (F := Ideal) m ρ fun d => list_inRange _ (hids d)), ?_⟩
  refine (θ_run Cert.ReferenceIdeal.defs _ _).mono (fun _ e c => ⟨(e c).1.trans ?_, (e c).2⟩) (Cert.ReferenceIdeal.Value.run (F := Ideal) m' ρ')
  rw [(hagree c).1, (hagree c).2]
  exact (Cert.Reference.Value.rows_eq_taken _ _ (hids c)).symm

/-- At machine floats the gather's result is, bit for bit, the table's rows at the indices. -/
theorem bitexact_gather : Cert.bitexact_Kernel_Reference := by
  intro m ρ m' ρ' h hagree
  have hids := fun d => entry_lt _ _ (h d)
  refine ⟨fun c => resultOf (F := Bits) m c, (θ_run Cert.KernelIdeal.defs _ _).mono (fun _ e c => ⟨(e.1 c).2.2, (e.1 c).1, (e.1 c).2.1⟩)
    (run_main (F := Bits) m ρ fun d => list_inRange _ (hids d)), ?_⟩
  refine (θ_run Cert.Reference.defs _ _).mono (fun _ e c => ⟨(e c).1.trans ?_, (e c).2⟩) (Cert.Reference.Value.run (F := Bits) m' ρ')
  rw [(hagree c).1, (hagree c).2]
  exact (Cert.Reference.Value.rows_eq_taken _ _ (hids c)).symm

/-! ## The feed-forward sub-layer -/

/-- The kernel of the feed-forward sub-layer runs at machine floats, leaves its arguments, and leaves every semaphore at zero. -/
theorem frame_ffn : Cert.quiescent_Ffn := fun m ρ _ => Cert.Ffn.Gen.frame (F := Bits) m ρ

/-- The same at exact reals. -/
theorem frame_ffnIdeal : Cert.quiescent_FfnIdeal := fun m ρ _ => Cert.FfnIdeal.Gen.frame (F := Ideal) m ρ

/-- The reference of the feed-forward sub-layer runs at exact reals and leaves its arguments; it has no semaphore. -/
theorem frame_ffnReference : Cert.quiescent_FfnReferenceIdeal := fun m ρ _ =>
  (θ_run Cert.FfnReferenceIdeal.defs _ _).mono (fun r e => ⟨fun c => (e c).2, sem_eq_zero_of_no_sems (by decide) r.2⟩)
    (Cert.FfnReferenceIdeal.Value.run (F := Ideal) m ρ)

/-- At exact reals the kernel of the feed-forward sub-layer leaves what its reference computes. -/
theorem algebraic_ffn : Cert.algebraic_FfnIdeal_FfnReferenceIdeal := by
  intro m ρ m' ρ' _ hagree
  refine ⟨fun c => (Cert.FfnIdeal.Gen.dats m 0 c).arrAt 5 Cert.FfnIdeal.cfg0.N, Cert.FfnIdeal.Value.run_blocks (F := Ideal) m ρ, ?_⟩
  refine (θ_run Cert.FfnReferenceIdeal.defs _ _).mono (fun _ e c => ⟨(e c).1.trans ?_, (e c).2⟩) (Cert.FfnReferenceIdeal.Value.run (F := Ideal) m' ρ')
  obtain ⟨h0, h1, h2, h3, h4⟩ := hagree c
  rw [Cert.FfnReferenceIdeal.Value.result_eq, h0, h1, h2, h3, h4]
  exact (Cert.FfnIdeal.Value.final m c).symm

/-! ## The merge of the two branches -/

/-- The kernel of the merge of the two branches runs at machine floats, leaves its arguments, and leaves every semaphore at zero. -/
theorem frame_merge : Cert.quiescent_Merge := fun m ρ _ => Cert.Merge.Gen.frame (F := Bits) m ρ

/-- The same at exact reals. -/
theorem frame_mergeIdeal : Cert.quiescent_MergeIdeal := fun m ρ _ => Cert.MergeIdeal.Gen.frame (F := Ideal) m ρ

/-- The reference of the merge of the two branches runs at exact reals and leaves its arguments; it has no semaphore. -/
theorem frame_mergeReference : Cert.quiescent_MergeReferenceIdeal := fun m ρ _ =>
  (θ_run Cert.MergeReferenceIdeal.defs _ _).mono (fun r e => ⟨fun c => (e c).2, sem_eq_zero_of_no_sems (by decide) r.2⟩)
    (Cert.MergeReferenceIdeal.Value.run (F := Ideal) m ρ)

/-- At exact reals the kernel of the merge of the two branches leaves what its reference computes. -/
theorem algebraic_merge : Cert.algebraic_MergeIdeal_MergeReferenceIdeal := by
  intro m ρ m' ρ' _ hagree
  refine ⟨fun c => (Cert.MergeIdeal.Gen.dats m 0 c).arrAt 9 Cert.MergeIdeal.cfg0.N, Cert.MergeIdeal.Value.run_blocks (F := Ideal) m ρ, ?_⟩
  refine (θ_run Cert.MergeReferenceIdeal.defs _ _).mono (fun _ e c => ⟨(e c).1.trans ?_, (e c).2⟩) (Cert.MergeReferenceIdeal.Value.run (F := Ideal) m' ρ')
  obtain ⟨h0, h1, h2, h3, h4, h5, h6, h7⟩ := hagree c
  rw [Cert.MergeReferenceIdeal.Value.result_eq, h0, h1, h2, h3, h4, h5, h6, h7]
  exact (Cert.MergeIdeal.Value.final m c).symm

/-! ## The input projection -/

set_option maxRecDepth 65536 in
/-- The printed kernel of the input projection and its idealization, of the same text, are the same programs at machine
    floats: their bodies. -/
theorem same_bodies : Cert.Proj.defs₀ (F := Bits) = Cert.ProjIdeal.defs₀ (F := Bits) := by
  unfold Cert.Proj.defs₀ Cert.ProjIdeal.defs₀
  refine congrArg Defs.onTc ?_
  funext l x
  match l with
  | 0 => rfl

set_option maxRecDepth 65536 in
/-- And with the pipeline round them. -/
theorem same_defs : Cert.Proj.defs (F := Bits) = Cert.ProjIdeal.defs (F := Bits) :=
  congrArg (Pipeline.defs Cert.ProjIdeal.pcfgs) same_bodies

set_option maxRecDepth 65536 in
/-- The kernel of the input projection runs at machine floats, leaves its arguments, and leaves every semaphore at zero. -/
theorem frame_proj : Cert.quiescent_Proj := fun m ρ _ => by
  rw [same_defs]
  exact Cert.ProjIdeal.Rows.frame (F := Bits) m ρ

/-- The same at exact reals. -/
theorem frame_projIdeal : Cert.quiescent_ProjIdeal := fun m ρ _ => Cert.ProjIdeal.Rows.frame (F := Ideal) m ρ

/-- The reference of the input projection runs at exact reals and leaves its arguments; it has no semaphore. -/
theorem frame_projReference : Cert.quiescent_ProjReferenceIdeal := fun m ρ _ =>
  (θ_run Cert.ProjReferenceIdeal.defs _ _).mono (fun r e => ⟨fun c => (e c).2.2, sem_eq_zero_of_no_sems (by decide) r.2⟩)
    (Cert.ProjReferenceIdeal.Value.run (F := Ideal) m ρ)

/-- At exact reals the kernel of the input projection leaves, in both its arrays, what its reference computes. -/
theorem algebraic_proj : Cert.algebraic_ProjIdeal_ProjReferenceIdeal := by
  intro m ρ m' ρ' _ hagree
  refine ⟨fun c => (Cert.ProjIdeal.Rows.dats m 0 c).arrAt 4 Cert.ProjIdeal.cfg0.N, fun c => (Cert.ProjIdeal.Rows.dats m 0 c).arrAt 5 Cert.ProjIdeal.cfg0.N,
    Cert.ProjIdeal.Value.run_arrays m ρ, ?_⟩
  refine (θ_run Cert.ProjReferenceIdeal.defs _ _).mono (fun _ e c => ⟨(e c).1.trans ?_, (e c).2.1.trans ?_, (e c).2.2⟩)
    (Cert.ProjReferenceIdeal.Value.run (F := Ideal) m' ρ')
  all_goals obtain ⟨h0, h1, h2⟩ := hagree c
  · rw [Cert.ProjReferenceIdeal.Value.result_eq, h0, h1, h2]
    exact (Cert.ProjIdeal.Value.final4 m c).symm
  · rw [h0, h1, h2]
    exact (Cert.ProjIdeal.Value.final5 m c).symm

/-- The kernel that prepares the two branches runs at machine floats, leaves its arguments, and leaves every semaphore at zero. -/
theorem frame_prep : Cert.quiescent_Prep := fun m ρ _ => Cert.Prep.Gen.frame m ρ

/-- The same at exact reals. -/
theorem frame_prepIdeal : Cert.quiescent_PrepIdeal := fun m ρ _ => Cert.PrepIdeal.Gen.frame m ρ

/-- The reference of the preparation runs at exact reals and leaves its arguments; it has no semaphore. -/
theorem frame_prepReference : Cert.quiescent_PrepReferenceIdeal := fun m ρ _ =>
  (θ_run Cert.PrepReferenceIdeal.defs _ _).mono (fun r e => ⟨fun c => (e c).2.2.2.2.2.2.2.2, sem_eq_zero_of_no_sems (by decide) r.2⟩)
    (Cert.PrepReferenceIdeal.Value.run (F := Ideal) m ρ)

/-- At exact reals the kernel that prepares the two branches leaves, in all its eight arrays, what its reference computes. -/
theorem algebraic_prep : Cert.algebraic_PrepIdeal_PrepReferenceIdeal := by
  intro m ρ m' ρ' _ hagree
  refine ⟨fun c => (Cert.PrepIdeal.Gen.dats m 0 c).arrAt 10 Cert.PrepIdeal.cfg0.N,
    fun c => (Cert.PrepIdeal.Gen.dats m 0 c).arrAt 11 Cert.PrepIdeal.cfg0.N,
    fun c => (Cert.PrepIdeal.Gen.dats m 0 c).arrAt 12 Cert.PrepIdeal.cfg0.N,
    fun c => (Cert.PrepIdeal.Gen.dats m 0 c).arrAt 13 Cert.PrepIdeal.cfg0.N,
    fun c => (Cert.PrepIdeal.Gen.dats m 0 c).arrAt 14 Cert.PrepIdeal.cfg0.N,
    fun c => (Cert.PrepIdeal.Gen.dats m 0 c).arrAt 15 Cert.PrepIdeal.cfg0.N,
    fun c => (Cert.PrepIdeal.Gen.dats m 0 c).arrAt 16 Cert.PrepIdeal.cfg0.N,
    fun c => (Cert.PrepIdeal.Gen.dats m 0 c).arrAt 17 Cert.PrepIdeal.cfg0.N,
    Cert.PrepIdeal.Value.run_blocks m ρ, ?_⟩
  refine (θ_run Cert.PrepReferenceIdeal.defs _ _).mono (fun _ e c => ⟨(e c).1.trans ?_, (e c).2.1.trans ?_, (e c).2.2.1.trans ?_, (e c).2.2.2.1.trans ?_, (e c).2.2.2.2.1.trans ?_, (e c).2.2.2.2.2.1.trans ?_, (e c).2.2.2.2.2.2.1.trans ?_, (e c).2.2.2.2.2.2.2.1.trans ?_, (e c).2.2.2.2.2.2.2.2⟩)
    (Cert.PrepReferenceIdeal.Value.run (F := Ideal) m' ρ')
  all_goals obtain ⟨h0, h1, h2, h3, h4, h5, h6⟩ := hagree c
  · show Cert.PrepReferenceIdeal.Value.mqOf (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg3)) (m' ((c.tc : Thread Cert.PrepReferenceIdeal.nD Cert.PrepReferenceIdeal.τ).loc Cert.PrepReferenceIdeal.main_arg4)) = _
    rw [h0, h3, h4]
    exact (Cert.PrepIdeal.Value.final10 m c).symm
  · show Cert.PrepReferenceIdeal.Value.mkTOf (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg3)) (m' ((c.tc : Thread Cert.PrepReferenceIdeal.nD Cert.PrepReferenceIdeal.τ).loc Cert.PrepReferenceIdeal.main_arg4)) = _
    rw [h0, h3, h4]
    exact (Cert.PrepIdeal.Value.final11 m c).symm
  · show Cert.PrepReferenceIdeal.Value.aqOf (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg2)) = _
    rw [h0, h2]
    exact (Cert.PrepIdeal.Value.final12 m c).symm
  · show Cert.PrepReferenceIdeal.Value.akOf (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg2)) = _
    rw [h0, h2]
    exact (Cert.PrepIdeal.Value.final13 m c).symm
  · show Cert.PrepReferenceIdeal.Value.avTOf (m' ((c.tc : Thread Cert.PrepReferenceIdeal.nD Cert.PrepReferenceIdeal.τ).loc Cert.PrepReferenceIdeal.main_arg0)) = _
    rw [h0]
    exact (Cert.PrepIdeal.Value.final14 m c).symm
  · show Cert.PrepReferenceIdeal.Value.kmeanOf (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg2)) = _
    rw [h0, h2]
    exact (Cert.PrepIdeal.Value.final15 m c).symm
  · show Cert.PrepReferenceIdeal.Value.gatesOf (m' ((c.tc : Thread Cert.PrepReferenceIdeal.nD Cert.PrepReferenceIdeal.τ).loc Cert.PrepReferenceIdeal.main_arg1)) (m' ((c.tc : Thread Cert.PrepReferenceIdeal.nD Cert.PrepReferenceIdeal.τ).loc Cert.PrepReferenceIdeal.main_arg5)) (m' ((c.tc : Thread Cert.PrepReferenceIdeal.nD Cert.PrepReferenceIdeal.τ).loc Cert.PrepReferenceIdeal.main_arg6)) = _
    rw [h1, h5, h6]
    exact (Cert.PrepIdeal.Value.final16 m c).symm
  · show Cert.PrepReferenceIdeal.Value.gtOf (m' ((c.tc : Thread Cert.PrepReferenceIdeal.nD Cert.PrepReferenceIdeal.τ).loc Cert.PrepReferenceIdeal.main_arg1)) (m' ((c.tc : Thread Cert.PrepReferenceIdeal.nD Cert.PrepReferenceIdeal.τ).loc Cert.PrepReferenceIdeal.main_arg5)) (m' ((c.tc : Thread Cert.PrepReferenceIdeal.nD Cert.PrepReferenceIdeal.τ).loc Cert.PrepReferenceIdeal.main_arg6)) = _
    rw [h1, h5, h6]
    exact (Cert.PrepIdeal.Value.final17 m c).symm

/-- Everything claimed. -/
theorem claim : Cert.Claim :=
  ⟨Cert.Kernel.Gen.facts, Cert.KernelIdeal.Gen.facts, Cert.Reference.Gen.facts, Cert.ReferenceIdeal.Gen.facts,
    Cert.Ffn.Gen.facts, Cert.FfnIdeal.Gen.facts, Cert.FfnReferenceIdeal.Gen.facts, Cert.Merge.Gen.facts, Cert.MergeIdeal.Gen.facts, Cert.MergeReferenceIdeal.Gen.facts,
    Cert.Proj.Gen.facts, Cert.ProjIdeal.Gen.facts, Cert.ProjReferenceIdeal.Gen.facts,
    Cert.Prep.Gen.facts, Cert.PrepIdeal.Gen.facts, Cert.PrepReferenceIdeal.Gen.facts,
    Cert.Pre_in_range.Gen.facts,
    frame_gather, frame_gatherIdeal, frame_taken, frame_takenIdeal,
    frame_ffn, frame_ffnIdeal, frame_ffnReference, frame_merge, frame_mergeIdeal, frame_mergeReference,
    frame_proj, frame_projIdeal, frame_projReference,
    frame_prep, frame_prepIdeal, frame_prepReference,
    trivial, algebraic_gather, bitexact_gather, trivial, algebraic_ffn, trivial, algebraic_merge, trivial, algebraic_proj,
    trivial, algebraic_prep⟩

end Cert.Proof

end
